-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_some_block_used : Cert.Pre_some_block_used.Facts] (m : (ℓ : Loc Cert.Kernel2.nD Cert.Kernel2.τ Cert.Kernel2.sig) → Buf (Elt Bits) ℓ) : Prop :=
  ∀ c : Dev Cert.Kernel2.nD,
    (Cert.Pre_some_block_used.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_some_block_used : Cert.Pre_some_block_used.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_some_block_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_some_block_used [hPre_some_block_used : Cert.Pre_some_block_used.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_some_block_used.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_some_block_used : Cert.Pre_some_block_used.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_some_block_used : Cert.Pre_some_block_used.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_some_block_used [hReference2Ideal : Cert.Reference2Ideal.Facts] [hPre_some_block_used : Cert.Pre_some_block_used.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_some_block_used m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_some_block_used : Cert.Pre_some_block_used.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v25)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v25) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v82) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v19) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_queries_and_keys : Cert.Pre_finite_queries_and_keys.Facts) (hPre_some_block_used : Cert.Pre_some_block_used.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2) (hPre_some_block_used := hPre_some_block_used)
    ∧ quiescent_Kernel2Ideal (hKernel2Ideal := hKernel2Ideal) (hPre_some_block_used := hPre_some_block_used)
    ∧ quiescent_Reference2Ideal (hReference2Ideal := hReference2Ideal)
    ∧ quiescent_Reference2Ideal_pre_some_block_used (hReference2Ideal := hReference2Ideal) (hPre_some_block_used := hPre_some_block_used)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal) (hPre_some_block_used := hPre_some_block_used)
    ∧ preserves_Kernel3_Kernel3Ideal
    ∧ algebraic_Kernel3Ideal_Reference3Ideal (hKernel3Ideal := hKernel3Ideal) (hReference3Ideal := hReference3Ideal)
-- ==== Pre_finite_queries_and_keys.lean ====
abbrev S8x4096x1024 : Shape := ⟨3, ![8, 4096, 1024]⟩
abbrev S8x4096x256 : Shape := ⟨3, ![8, 4096, 256]⟩
abbrev S8x256x256 : Shape := ⟨3, ![8, 256, 256]⟩
abbrev S8x16384x256 : Shape := ⟨3, ![8, 16384, 256]⟩
abbrev S8x20736x256 : Shape := ⟨3, ![8, 20736, 256]⟩
abbrev S_ : Shape := ⟨0, ![]⟩

class Facts : Prop where
  shapeCasts_S8x4096x1024_S8x16384x256 : S8x4096x1024.ShapeCasts S8x16384x256
  concatenates_S8x16384x256_S8x4096x256_S8x256x256_S8x20736x256_d1 : Shape.Concatenates [S8x16384x256, S8x4096x256, S8x256x256] S8x20736x256 1
  bcast_S_S8x20736x256 : S_.BroadcastsInDim S8x20736x256 (![] : Fin 0 → Fin S8x20736x256.rank)

variable [Facts]

def fn {F : FTy → Type} [FloatOps F] (main_arg0 : FVec F S8x4096x1024 .f32) (main_arg1 : FVec F S8x4096x256 .f32) (main_arg2 : FVec F S8x4096x256 .f32) (main_arg3 : FVec F S8x256x256 .f32) (main_arg4 : FVec F S8x256x256 .f32) : IVec S8x20736x256 1 :=
  let main_v0 : FVec F S8x16384x256 .f32 := shapeCast S8x16384x256 main_arg0 shapeCasts_S8x4096x1024_S8x16384x256
  let main_v1 : FVec F S8x20736x256 .f32 := concatenate S8x20736x256 1 [⟨S8x16384x256, main_v0⟩, ⟨S8x4096x256, main_arg1⟩, ⟨S8x256x256, main_arg3⟩] concatenates_S8x16384x256_S8x4096x256_S8x256x256_S8x20736x256_d1
  let main_v2 : FVec F S8x20736x256 .f32 := Host.absf main_v1
  let main_cst : FVec F S_ .f32 := constant S_ .f32 0x7F800000#32
  let main_v3 : FVec F S8x20736x256 .f32 := broadcastInDim S8x20736x256 ![] bcast_S_S8x20736x256 main_cst
  let main_v4 : IVec S8x20736x256 1 := cmpf .olt main_v2 main_v3
  main_v4
-- ==== Pre_some_block_used.lean ====
abbrev S164352x1024 : Shape := ⟨2, ![164352, 1024]⟩
abbrev S32 : Shape := ⟨1, ![32]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S1 : Shape := ⟨1, ![1]⟩
abbrev S_ : Shape := ⟨0, ![]⟩

class Facts : Prop where
  slices_S32_S1_31 : S32.Slices ![31] S1
  bcast_S_S1 : S_.BroadcastsInDim S1 (![] : Fin 0 → Fin S1.rank)

variable [Facts]

def fn {F : FTy → Type} [FloatOps F] (main_arg0 : FVec F S164352x1024 .f32) (main_arg1 : IVec S32 32) (main_arg2 : FVec F S4x32x1024x2048 .f32) (main_arg3 : FVec F S4x32x2048 .f32) (main_arg4 : FVec F S4x32x1024x1024 .f32) (main_arg5 : FVec F S4x32x1024 .f32) : IVec S1 1 :=
  let main_v0 : IVec S1 32 := (extractStridedSlice S1 ![31] · slices_S32_S1_31) main_arg1
  let main_c : IVec S_ 32 := constantI S_ 32 768#32
  let main_v1 : IVec S1 32 := broadcastInDim S1 ![] bcast_S_S1 main_c
  let main_v2 : IVec S1 1 := cmpi .sge main_v0 main_v1
  main_v2
-- ==== Kernel.lean ====
abbrev S8x4096x1024 : Shape := ⟨3, ![8, 4096, 1024]⟩
abbrev S8x4096x256 : Shape := ⟨3, ![8, 4096, 256]⟩
abbrev S8x256x256 : Shape := ⟨3, ![8, 256, 256]⟩
abbrev S_ : Shape := ⟨0, ![]⟩
abbrev S8x4096x4x1x64 : Shape := ⟨5, ![8, 4096, 4, 1, 64]⟩
abbrev S8x4096x4x2x64 : Shape := ⟨5, ![8, 4096, 4, 2, 64]⟩
abbrev S8x4096x512 : Shape := ⟨3, ![8, 4096, 512]⟩
abbrev S8x256x4x1x64 : Shape := ⟨5, ![8, 256, 4, 1, 64]⟩
abbrev S8x256x4x2x64 : Shape := ⟨5, ![8, 256, 4, 2, 64]⟩
abbrev S8x256x512 : Shape := ⟨3, ![8, 256, 512]⟩
abbrev S8x4352x512 : Shape := ⟨3, ![8, 4352, 512]⟩
abbrev S8x4096x4x64 : Shape := ⟨4, ![8, 4096, 4, 64]⟩
abbrev S8x4096x4x128 : Shape := ⟨4, ![8, 4096, 4, 128]⟩
abbrev S8x256x4x64 : Shape := ⟨4, ![8, 256, 4, 64]⟩
abbrev S8x256x4x128 : Shape := ⟨4, ![8, 256, 4, 128]⟩
abbrev S1x512x256 : Shape := ⟨3, ![1, 512, 256]⟩
abbrev S1x4352x128 : Shape := ⟨3, ![1, 4352, 128]⟩
abbrev S1x256x128 : Shape := ⟨3, ![1, 256, 128]⟩
abbrev S256x128 : Shape := ⟨2, ![256, 128]⟩
abbrev S512x128 : Shape := ⟨2, ![512, 128]⟩
abbrev S1x512x128 : Shape := ⟨3, ![1, 512, 128]⟩
abbrev S512x256 : Shape := ⟨2, ![512, 256]⟩
abbrev S512 : Shape := ⟨1, ![512]⟩
abbrev S512x1 : Shape := ⟨2, ![512, 1]⟩

abbrev nBuf : Space → Nat
  | .hbm => 30
  | .vmem => 8
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S8x4096x256, .f32⟩
  | .hbm, ⟨3, _⟩ => ⟨S8x256x256, .f32⟩
  | .hbm, ⟨4, _⟩ => ⟨S8x256x256, .f32⟩
  | .hbm, ⟨5, _⟩ => ⟨S_, .f32⟩
  | .hbm, ⟨6, _⟩ => ⟨S8x4096x1024, .f32⟩
  | .hbm, ⟨7, _⟩ => ⟨S8x4096x1024, .f32⟩
  | .hbm, ⟨8, _⟩ => ⟨S8x4096x1024, .bf16⟩
  | .hbm, ⟨9, _⟩ => ⟨S8x4096x4x1x64, .f32⟩
  | .hbm, ⟨10, _⟩ => ⟨S8x4096x4x2x64, .f32⟩
  | .hbm, ⟨11, _⟩ => ⟨S8x4096x512, .f32⟩
  | .hbm, ⟨12, _⟩ => ⟨S8x256x4x1x64, .f32⟩
  | .hbm, ⟨13, _⟩ => ⟨S8x256x4x2x64, .f32⟩
  | .hbm, ⟨14, _⟩ => ⟨S8x256x512, .f32⟩
  | .hbm, ⟨15, _⟩ => ⟨S8x4352x512, .f32⟩
  | .hbm, ⟨16, _⟩ => ⟨S8x4352x512, .bf16⟩
  | .hbm, ⟨17, _⟩ => ⟨S8x4096x4x64, .f32⟩
  | .hbm, ⟨18, _⟩ => ⟨S_, .f32⟩
  | .hbm, ⟨19, _⟩ => ⟨S8x4096x4x64, .f32⟩
  | .hbm, ⟨20, _⟩ => ⟨S8x4096x4x128, .f32⟩
  | .hbm, ⟨21, _⟩ => ⟨S8x4096x512, .f32⟩
  | .hbm, ⟨22, _⟩ => ⟨S8x256x4x64, .f32⟩
  | .hbm, ⟨23, _⟩ => ⟨S_, .f32⟩
  | .hbm, ⟨24, _⟩ => ⟨S8x256x4x64, .f32⟩
  | .hbm, ⟨25, _⟩ => ⟨S8x256x4x128, .f32⟩
  | .hbm, ⟨26, _⟩ => ⟨S8x256x512, .f32⟩
  | .hbm, ⟨27, _⟩ => ⟨S8x4352x512, .f32⟩
  | .hbm, ⟨28, _⟩ => ⟨S8x4352x512, .bf16⟩
  | .hbm, ⟨29, _⟩ => ⟨S8x4096x1024, .bf16⟩
  | .local _ .vmem, ⟨0, _⟩ => ⟨S1x512x256, .bf16⟩
  | .local _ .vmem, ⟨1, _⟩ => ⟨S1x512x256, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x512x256, .bf16⟩
  | .local _ .vmem, ⟨7, _⟩ => ⟨S1x512x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x4096x1024 : Shape := ⟨3, ![8, 4096, 1024]⟩
abbrev S8x4096x256 : Shape := ⟨3, ![8, 4096, 256]⟩
abbrev S8x256x256 : Shape := ⟨3, ![8, 256, 256]⟩
abbrev S8x4352x256 : Shape := ⟨3, ![8, 4352, 256]⟩
abbrev S8x4096x4x4x64 : Shape := ⟨5, ![8, 4096, 4, 4, 64]⟩
abbrev S8x4352x4x64 : Shape := ⟨4, ![8, 4352, 4, 64]⟩
abbrev S8x4x4352x4096x4 : Shape := ⟨5, ![8, 4, 4352, 4096, 4]⟩
abbrev S8x4x4x4096x4352 : Shape := ⟨5, ![8, 4, 4, 4096, 4352]⟩
abbrev S_ : Shape := ⟨0, ![]⟩
abbrev S8x4x4x4096 : Shape := ⟨4, ![8, 4, 4, 4096]⟩
abbrev S8x4x4x4096x1 : Shape := ⟨5, ![8, 4, 4, 4096, 1]⟩
abbrev S8x4x64x4x4096 : Shape := ⟨5, ![8, 4, 64, 4, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S8x4096x256, .f32⟩
  | .hbm, ⟨3, _⟩ => ⟨S8x256x256, .f32⟩
  | .hbm, ⟨4, _⟩ => ⟨S8x256x256, .f32⟩
  | .hbm, ⟨5, _⟩ => ⟨S8x4352x256, .f32⟩
  | .hbm, ⟨6, _⟩ => ⟨S8x4352x256, .f32⟩
  | .hbm, ⟨7, _⟩ => ⟨S8x4096x4x4x64, .f32⟩
  | .hbm, ⟨8, _⟩ => ⟨S8x4352x4x64, .f32⟩
  | .hbm, ⟨9, _⟩ => ⟨S8x4352x4x64, .f32⟩
  | .hbm, ⟨10, _⟩ => ⟨S8x4x4352x4096x4, .f32⟩
  | .hbm, ⟨11, _⟩ => ⟨S8x4x4x4096x4352, .f32⟩
  | .hbm, ⟨12, _⟩ => ⟨S_, .f32⟩
  | .hbm, ⟨13, _⟩ => ⟨S8x4x4x4096x4352, .f32⟩
  | .hbm, ⟨14, _⟩ => ⟨S8x4x4x4096x4352, .f32⟩
  | .hbm, ⟨15, _⟩ => ⟨S_, .f32⟩
  | .hbm, ⟨16, _⟩ => ⟨S8x4x4x4096, .f32⟩
  | .hbm, ⟨17, _⟩ => ⟨S_, .f32⟩
  | .hbm, ⟨18, _⟩ => ⟨S8x4x4x4096, .f32⟩
  | .hbm, ⟨19, _⟩ => ⟨S8x4x4x4096, .f32⟩
  | .hbm, ⟨20, _⟩ => ⟨S8x4x4x4096x1, .f32⟩
  | .hbm, ⟨21, _⟩ => ⟨S8x4x4x4096x4352, .f32⟩
  | .hbm, ⟨22, _⟩ => ⟨S8x4x4x4096x4352, .f32⟩
  | .hbm, ⟨23, _⟩ => ⟨S8x4x4x4096x4352, .f32⟩
  | .hbm, ⟨24, _⟩ => ⟨S_, .f32⟩
  | .hbm, ⟨25, _⟩ => ⟨S8x4x4x4096, .f32⟩
  | .hbm, ⟨26, _⟩ => ⟨S8x4x4x4096x1, .f32⟩
  | .hbm, ⟨27, _⟩ => ⟨S8x4x4x4096x4352, .f32⟩
  | .hbm, ⟨28, _⟩ => ⟨S8x4x4x4096x4352, .f32⟩
  | .hbm, ⟨29, _⟩ => ⟨S8x4x64x4x4096, .f32⟩
  | .hbm, ⟨30, _⟩ => ⟨S8x4096x4x4x64, .f32⟩
  | .hbm, ⟨31, _⟩ => ⟨S8x4096x1024, .f32⟩
  | .hbm, ⟨32, _⟩ => ⟨S8x4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel2.lean ====
abbrev S164352x1024 : Shape := ⟨2, ![164352, 1024]⟩
abbrev S32 : Shape := ⟨1, ![32]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S214 : Shape := ⟨1, ![214]⟩
abbrev S_ : Shape := ⟨0, ![]⟩
abbrev S214x1 : Shape := ⟨2, ![214, 1]⟩
abbrev S1x32 : Shape := ⟨2, ![1, 32]⟩
abbrev S214x32 : Shape := ⟨2, ![214, 32]⟩
abbrev S1 : Shape := ⟨1, ![1]⟩
abbrev S213 : Shape := ⟨1, ![213]⟩
abbrev S1314816x128 : Shape := ⟨2, ![1314816, 128]⟩
abbrev S4x32x1x2048 : Shape := ⟨4, ![4, 32, 1, 2048]⟩
abbrev S4x32x1x1024 : Shape := ⟨4, ![4, 32, 1, 1024]⟩
abbrev S6144x128 : Shape := ⟨2, ![6144, 128]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S1024x1024 : Shape := ⟨2, ![1024, 1024]⟩
abbrev S768x128 : Shape := ⟨2, ![768, 128]⟩
abbrev S768x1024 : Shape := ⟨2, ![768, 1024]⟩
abbrev S1024x512 : Shape := ⟨2, ![1024, 512]⟩
abbrev S768x512 : Shape := ⟨2, ![768, 512]⟩
abbrev S1x1x1x512 : Shape := ⟨4, ![1, 1, 1, 512]⟩
abbrev S1x512 : Shape := ⟨2, ![1, 512]⟩
abbrev S512x1024 : Shape := ⟨2, ![512, 1024]⟩
abbrev S1x1024 : Shape := ⟨2, ![1, 1024]⟩

abbrev nBuf : Space → Nat
  | .hbm => 45
  | .vmem => 14
  | .smem => 3
  | _ => 0

abbrev bufTy : (tb : Table) → Fin (tcTables nBuf tb) → BufTy
  | .hbm, ⟨0, _⟩ => ⟨S164352x1024, .f32⟩
  | .hbm, ⟨1, _⟩ => ⟨S32, .i32⟩
  | .hbm, ⟨2, _⟩ => ⟨S4x32x1024x2048, .f32⟩
  | .hbm, ⟨3, _⟩ => ⟨S4x32x2048, .f32⟩
  | .hbm, ⟨4, _⟩ => ⟨S4x32x1024x1024, .f32⟩
  | .hbm, ⟨5, _⟩ => ⟨S4x32x1024, .f32⟩
  | .hbm, ⟨6, _⟩ => ⟨S214, .i32⟩
  | .hbm, ⟨7, _⟩ => ⟨S_, .i32⟩
  | .hbm, ⟨8, _⟩ => ⟨S214, .i32⟩
  | .hbm, ⟨9, _⟩ => ⟨S214, .i32⟩
  | .hbm, ⟨10, _⟩ => ⟨S214x1, .i32⟩
  | .hbm, ⟨11, _⟩ => ⟨S1x32, .i32⟩
  | .hbm, ⟨12, _⟩ => ⟨S214x32, .i32⟩
  | .hbm, ⟨13, _⟩ => ⟨S214x32, .i32⟩
  | .hbm, ⟨14, _⟩ => ⟨S214x32, .i1⟩
  | .hbm, ⟨15, _⟩ => ⟨S214x32, .i32⟩
  | .hbm, ⟨16, _⟩ => ⟨S_, .i32⟩
  | .hbm, ⟨17, _⟩ => ⟨S214, .i32⟩
  | .hbm, ⟨18, _⟩ => ⟨S_, .i32⟩
  | .hbm, ⟨19, _⟩ => ⟨S214, .i32⟩
  | .hbm, ⟨20, _⟩ => ⟨S_, .i32⟩
  | .hbm, ⟨21, _⟩ => ⟨S1, .i32⟩
  | .hbm, ⟨22, _⟩ => ⟨S213, .i32⟩
  | .hbm, ⟨23, _⟩ => ⟨S213, .i32⟩
  | .hbm, ⟨24, _⟩ => ⟨S213, .i1⟩
  | .hbm, ⟨25, _⟩ => ⟨S213, .i32⟩
  | .hbm, ⟨26, _⟩ => ⟨S1, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1314816x128, .f32⟩
  | .hbm, ⟨42, _⟩ => ⟨S4x32x1x2048, .f32⟩
  | .hbm, ⟨43, _⟩ => ⟨S4x32x1x1024, .f32⟩
  | .hbm, ⟨44, _⟩ => ⟨S1314816x128, .f32⟩
  | .local _ .vmem, ⟨0, _⟩ => ⟨S6144x128, .f32⟩
  | .local _ .vmem, ⟨1, _⟩ => ⟨S6144x128, .f32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S6144x128, .f32⟩
  | .local _ .vmem, ⟨11, _⟩ => ⟨S6144x128, .f32⟩
  | .local _ .vmem, ⟨12, _⟩ => ⟨S1024x2048, .bf16⟩
  | .local _ .vmem, ⟨13, _⟩ => ⟨S1024x1024, .bf16⟩
  | .local _ .smem, ⟨0, _⟩ => ⟨S214, .i32⟩
  | .local _ .smem, ⟨1, _⟩ => ⟨S214, .i32⟩
  | .local _ .smem, ⟨2, _⟩ => ⟨S1, .i32⟩
  | _, _ => ⟨S164352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_c : Ref sig .tc := ⟨.hbm, 35, rfl⟩
abbrev main_call0_v6 : Ref sig .tc := ⟨.hbm, 36, rfl⟩
abbrev main_call0_v7 : Ref sig .tc := ⟨.hbm, 37, rfl⟩
abbrev main_call0_c_0 : Ref sig .tc := ⟨.hbm, 38, rfl⟩
abbrev main_call0_v8 : Ref sig .tc := ⟨.hbm, 39, rfl⟩
abbrev main_v20 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v11 : Ref sig .tc := ⟨.smem, 0, rfl⟩
abbrev main_v17 : Ref sig .tc := ⟨.smem, 1, rfl⟩
abbrev main_v21 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![214], ![false]⟩

abbrev pre0 : Pipeline.Prefetch sig := ⟨3, ![main_v11.idx, main_v17.idx, main_v21.idx], fun | 0 => main_v11.names | 1 => main_v17.names | 2 => main_v21.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) (v5 : BitVec 32) : BitVec 1 :=
  let arg0 : BitVec 32 := BitVec.ofNat 32 (i 0).val
  let v6 : BitVec 1 := Scalar.cmpi .slt arg0 v5
  let v7 : BitVec 32 := Scalar.extui v6
  let c0_i32_0 : BitVec 32 := 0#32
  let v8 : BitVec 1 := Scalar.cmpi .ne v7 c0_i32_0
  v8

def k0_cond3 (i : grid0.Coords) (v9 : BitVec 32) : BitVec 1 :=
  let arg0 : BitVec 32 := BitVec.ofNat 32 (i 0).val
  let v10 : BitVec 1 := Scalar.cmpi .sge arg0 v9
  let v11 : BitVec 32 := Scalar.extui v10
  let c0_i32_2 : BitVec 32 := 0#32
  let v12 : BitVec 1 := Scalar.cmpi .ne v11 c0_i32_2
  v12

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S214.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S214) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S214.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S214) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S214.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S214) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S214.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S214) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6144x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6144x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S164352x1024 : Shape := ⟨2, ![164352, 1024]⟩
abbrev S32 : Shape := ⟨1, ![32]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S214 : Shape := ⟨1, ![214]⟩
abbrev S_ : Shape := ⟨0, ![]⟩
abbrev S214x1 : Shape := ⟨2, ![214, 1]⟩
abbrev S1x32 : Shape := ⟨2, ![1, 32]⟩
abbrev S214x32 : Shape := ⟨2, ![214, 32]⟩
abbrev S214x768x1024 : Shape := ⟨3, ![214, 768, 1024]⟩
abbrev S1x32x1024x2048 : Shape := ⟨4, ![1, 32, 1024, 2048]⟩
abbrev S32x1024x2048 : Shape := ⟨3, ![32, 1024, 2048]⟩
abbrev S214x1024x2048 : Shape := ⟨3, ![214, 1024, 2048]⟩
abbrev S214x768x2048 : Shape := ⟨3, ![214, 768, 2048]⟩
abbrev S1x32x2048 : Shape := ⟨3, ![1, 32, 2048]⟩
abbrev S32x2048 : Shape := ⟨2, ![32, 2048]⟩
abbrev S214x2048 : Shape := ⟨2, ![214, 2048]⟩
abbrev S214x1x2048 : Shape := ⟨3, ![214, 1, 2048]⟩
abbrev S1x32x1024x1024 : Shape := ⟨4, ![1, 32, 1024, 1024]⟩
abbrev S32x1024x1024 : Shape := ⟨3, ![32, 1024, 1024]⟩
abbrev S214x1024x1024 : Shape := ⟨3, ![214, 1024, 1024]⟩
abbrev S1x32x1024 : Shape := ⟨3, ![1, 32, 1024]⟩
abbrev S32x1024 : Shape := ⟨2, ![32, 1024]⟩
abbrev S214x1024 : Shape := ⟨2, ![214, 1024]⟩
abbrev S214x1x1024 : Shape := ⟨3, ![214, 1, 1024]⟩
abbrev S1 : Shape := ⟨1, ![1]⟩
abbrev S214x1x1 : Shape := ⟨3, ![214, 1, 1]⟩
abbrev S1314816x128 : Shape := ⟨2, ![1314816, 128]⟩

abbrev nBuf : Space → Nat
  | .hbm => 128
  | .vmem => 0
  | .smem => 0
  | _ => 0

abbrev bufTy : (tb : Table) → Fin (tcTables nBuf tb) → BufTy
  | .hbm, ⟨0, _⟩ => ⟨S164352x1024, .f32⟩
  | .hbm, ⟨1, _⟩ => ⟨S32, .i32⟩
  | .hbm, ⟨2, _⟩ => ⟨S4x32x1024x2048, .f32⟩
  | .hbm, ⟨3, _⟩ => ⟨S4x32x2048, .f32⟩
  | .hbm, ⟨4, _⟩ => ⟨S4x32x1024x1024, .f32⟩
  | .hbm, ⟨5, _⟩ => ⟨S4x32x1024, .f32⟩
  | .hbm, ⟨6, _⟩ => ⟨S214, .i32⟩
  | .hbm, ⟨7, _⟩ => ⟨S_, .i32⟩
  | .hbm, ⟨8, _⟩ => ⟨S214, .i32⟩
  | .hbm, ⟨9, _⟩ => ⟨S214, .i32⟩
  | .hbm, ⟨10, _⟩ => ⟨S214x1, .i32⟩
  | .hbm, ⟨11, _⟩ => ⟨S1x32, .i32⟩
  | .hbm, ⟨12, _⟩ => ⟨S214x32, .i32⟩
  | .hbm, ⟨13, _⟩ => ⟨S214x32, .i32⟩
  | .hbm, ⟨14, _⟩ => ⟨S214x32, .i1⟩
  | .hbm, ⟨15, _⟩ => ⟨S214x32, .i32⟩
  | .hbm, ⟨16, _⟩ => ⟨S_, .i32⟩
  | .hbm, ⟨17, _⟩ => ⟨S214, .i32⟩
  | .hbm, ⟨18, _⟩ => ⟨S_, .i32⟩
  | .hbm, ⟨19, _⟩ => ⟨S214, .i32⟩
  | .hbm, ⟨20, _⟩ => ⟨S214, .i32⟩
  | .hbm, ⟨21, _⟩ => ⟨S214x768x1024, .f32⟩
  | .hbm, ⟨22, _⟩ => ⟨S1x32x1024x2048, .f32⟩
  | .hbm, ⟨23, _⟩ => ⟨S32x1024x2048, .f32⟩
  | .hbm, ⟨24, _⟩ => ⟨S_, .i32⟩
  | .hbm, ⟨25, _⟩ => ⟨S214, .i32⟩
  | .hbm, ⟨26, _⟩ => ⟨S214, .i1⟩
  | .hbm, ⟨27, _⟩ => ⟨S_, .i32⟩
  | .hbm, ⟨28, _⟩ => ⟨S214, .i32⟩
  | .hbm, ⟨29, _⟩ => ⟨S214, .i32⟩
  | .hbm, ⟨30, _⟩ => ⟨S214, .i32⟩
  | .hbm, ⟨31, _⟩ => ⟨S214x1, .i32⟩
  | .hbm, ⟨32, _⟩ => ⟨S214x1024x2048, .f32⟩
  | .hbm, ⟨33, _⟩ => ⟨S214x768x2048, .f32⟩
  | .hbm, ⟨34, _⟩ => ⟨S1x32x2048, .f32⟩
  | .hbm, ⟨35, _⟩ => ⟨S32x2048, .f32⟩
  | .hbm, ⟨36, _⟩ => ⟨S_, .i32⟩
  | .hbm, ⟨37, _⟩ => ⟨S214, .i32⟩
  | .hbm, ⟨38, _⟩ => ⟨S214, .i1⟩
  | .hbm, ⟨39, _⟩ => ⟨S_, .i32⟩
  | .hbm, ⟨40, _⟩ => ⟨S214, .i32⟩
  | .hbm, ⟨41, _⟩ => ⟨S214, .i32⟩
  | .hbm, ⟨42, _⟩ => ⟨S214, .i32⟩
  | .hbm, ⟨43, _⟩ => ⟨S214x1, .i32⟩
  | .hbm, ⟨44, _⟩ => ⟨S214x2048, .f32⟩
  | .hbm, ⟨45, _⟩ => ⟨S214x1x2048, .f32⟩
  | .hbm, ⟨46, _⟩ => ⟨S214x768x2048, .f32⟩
  | .hbm, ⟨47, _⟩ => ⟨S214x768x2048, .f32⟩
  | .hbm, ⟨48, _⟩ => ⟨S214x768x1024, .f32⟩
  | .hbm, ⟨49, _⟩ => ⟨S214x768x1024, .f32⟩
  | .hbm, ⟨50, _⟩ => ⟨S_, .f32⟩
  | .hbm, ⟨51, _⟩ => ⟨S214x768x1024, .f32⟩
  | .hbm, ⟨52, _⟩ => ⟨S214x768x1024, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S214x768x1024, .f32⟩
  | .hbm, ⟨57, _⟩ => ⟨S214x768x1024, .f32⟩
  | .hbm, ⟨58, _⟩ => ⟨S_, .f32⟩
  | .hbm, ⟨59, _⟩ => ⟨S214x768x1024, .f32⟩
  | .hbm, ⟨60, _⟩ => ⟨S214x768x1024, .f32⟩
  | .hbm, ⟨61, _⟩ => ⟨S_, .f32⟩
  | .hbm, ⟨62, _⟩ => ⟨S214x768x1024, .f32⟩
  | .hbm, ⟨63, _⟩ => ⟨S214x768x1024, .f32⟩
  | .hbm, ⟨64, _⟩ => ⟨S214x768x1024, .f32⟩
  | .hbm, ⟨65, _⟩ => ⟨S_, .f32⟩
  | .hbm, ⟨66, _⟩ => ⟨S214x768x1024, .f32⟩
  | .hbm, ⟨67, _⟩ => ⟨S214x768x1024, .f32⟩
  | .hbm, ⟨68, _⟩ => ⟨S214x768x1024, .f32⟩
  | .hbm, ⟨69, _⟩ => ⟨S214x768x1024, .f32⟩
  | .hbm, ⟨70, _⟩ => ⟨S_, .f32⟩
  | .hbm, ⟨71, _⟩ => ⟨S214x768x1024, .f32⟩
  | .hbm, ⟨72, _⟩ => ⟨S214x768x1024, .f32⟩
  | .hbm, ⟨73, _⟩ => ⟨S_, .f32⟩
  | .hbm, ⟨74, _⟩ => ⟨S214x768x1024, .f32⟩
  | .hbm, ⟨75, _⟩ => ⟨S214x768x1024, .f32⟩
  | .hbm, ⟨76, _⟩ => ⟨S214x768x1024, .f32⟩
  | .hbm, ⟨77, _⟩ => ⟨S1x32x1024x1024, .f32⟩
  | .hbm, ⟨78, _⟩ => ⟨S32x1024x1024, .f32⟩
  | .hbm, ⟨79, _⟩ => ⟨S_, .i32⟩
  | .hbm, ⟨80, _⟩ => ⟨S214, .i32⟩
  | .hbm, ⟨81, _⟩ => ⟨S214, .i1⟩
  | .hbm, ⟨82, _⟩ => ⟨S_, .i32⟩
  | .hbm, ⟨83, _⟩ => ⟨S214, .i32⟩
  | .hbm, ⟨84, _⟩ => ⟨S214, .i32⟩
  | .hbm, ⟨85, _⟩ => ⟨S214, .i32⟩
  | .hbm, ⟨86, _⟩ => ⟨S214x1, .i32⟩
  | .hbm, ⟨87, _⟩ => ⟨S214x1024x1024, .f32⟩
  | .hbm, ⟨88, _⟩ => ⟨S214x768x1024, .f32⟩
  | .hbm, ⟨89, _⟩ => ⟨S1x32x1024, .f32⟩
  | .hbm, ⟨90, _⟩ => ⟨S32x1024, .f32⟩
  | .hbm, ⟨91, _⟩ => ⟨S_, .i32⟩
  | .hbm, ⟨92, _⟩ => ⟨S214, .i32⟩
  | .hbm, ⟨93, _⟩ => ⟨S214, .i1⟩
  | .hbm, ⟨94, _⟩ => ⟨S_, .i32⟩
  | .hbm, ⟨95, _⟩ => ⟨S214, .i32⟩
  | .hbm, ⟨96, _⟩ => ⟨S214, .i32⟩
  | .hbm, ⟨97, _⟩ => ⟨S214, .i32⟩
  | .hbm, ⟨98, _⟩ => ⟨S214x1, .i32⟩
  | .hbm, ⟨99, _⟩ => ⟨S214x1024, .f32⟩
  | .hbm, ⟨100, _⟩ => ⟨S214x1x1024, .f32⟩
  | .hbm, ⟨101, _⟩ => ⟨S214x768x1024, .f32⟩
  | .hbm, ⟨102, _⟩ => ⟨S214x768x1024, .f32⟩
  | .hbm, ⟨103, _⟩ => ⟨S214, .i32⟩
  | .hbm, ⟨104, _⟩ => ⟨S1, .i32⟩
  | .hbm, ⟨105, _⟩ => ⟨S_, .i32⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S_, .i32⟩
  | .hbm, ⟨111, _⟩ => ⟨S_, .i1⟩
  | .hbm, ⟨112, _⟩ => ⟨S_, .i32⟩
  | .hbm, ⟨113, _⟩ => ⟨S_, .i32⟩
  | .hbm, ⟨114, _⟩ => ⟨S_, .i1⟩
  | .hbm, ⟨115, _⟩ => ⟨S_, .i1⟩
  | .hbm, ⟨116, _⟩ => ⟨S_, .i32⟩
  | .hbm, ⟨117, _⟩ => ⟨S_, .i32⟩
  | .hbm, ⟨118, _⟩ => ⟨S_, .i32⟩
  | .hbm, ⟨119, _⟩ => ⟨S214, .i32⟩
  | .hbm, ⟨120, _⟩ => ⟨S214, .i1⟩
  | .hbm, ⟨121, _⟩ => ⟨S214x1x1, .i1⟩
  | .hbm, ⟨122, _⟩ => ⟨S_, .f32⟩
  | .hbm, ⟨123, _⟩ => ⟨S_, .f32⟩
  | .hbm, ⟨124, _⟩ => ⟨S214x768x1024, .i1⟩
  | .hbm, ⟨125, _⟩ => ⟨S214x768x1024, .f32⟩
  | .hbm, ⟨126, _⟩ => ⟨S214x768x1024, .f32⟩
  | .hbm, ⟨127, _⟩ => ⟨S1314816x128, .f32⟩
  | _, _ => ⟨S164352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_cst_7 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_cst_11 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_12 : Ref sig .tc := ⟨.hbm, 79, rfl⟩
abbrev main_v54 : Ref sig .tc := ⟨.hbm, 80, rfl⟩
abbrev main_v55 : Ref sig .tc := ⟨.hbm, 81, rfl⟩
abbrev main_c_13 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_14 : Ref sig .tc := ⟨.hbm, 91, rfl⟩
abbrev main_v64 : Ref sig .tc := ⟨.hbm, 92, rfl⟩
abbrev main_v65 : Ref sig .tc := ⟨.hbm, 93, rfl⟩
abbrev main_c_15 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_16 : Ref sig .tc := ⟨.hbm, 106, rfl⟩
abbrev main_call1_v0 : Ref sig .tc := ⟨.hbm, 107, rfl⟩
abbrev main_call1_v1 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_call1_v5 : Ref sig .tc := ⟨.hbm, 112, rfl⟩
abbrev main_call1_c : Ref sig .tc := ⟨.hbm, 113, rfl⟩
abbrev main_call1_v6 : Ref sig .tc := ⟨.hbm, 114, rfl⟩
abbrev main_call1_v7 : Ref sig .tc := ⟨.hbm, 115, rfl⟩
abbrev main_call1_c_0 : Ref sig .tc := ⟨.hbm, 116, rfl⟩
abbrev main_call1_v8 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_17 : Ref sig .tc := ⟨.hbm, 122, rfl⟩
abbrev main_call2_v0 : Ref sig .tc := ⟨.hbm, 123, rfl⟩
abbrev main_call2_v1 : Ref sig .tc := ⟨.hbm, 124, rfl⟩
abbrev main_call2_v2 : Ref sig .tc := ⟨.hbm, 125, rfl⟩
abbrev main_v81 : Ref sig .tc := ⟨.hbm, 126, rfl⟩
abbrev main_v82 : Ref sig .tc := ⟨.hbm, 127, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x6144 : Shape := ⟨2, ![8, 6144]⟩
abbrev S1024x3072 : Shape := ⟨2, ![1024, 3072]⟩
abbrev S8x6x1024 : Shape := ⟨3, ![8, 6, 1024]⟩
abbrev S_ : Shape := ⟨0, ![]⟩
abbrev S8x8x1024 : Shape := ⟨3, ![8, 8, 1024]⟩
abbrev S1x512x1024 : Shape := ⟨3, ![1, 512, 1024]⟩
abbrev S1x8x1024 : Shape := ⟨3, ![1, 8, 1024]⟩
abbrev S8x1024 : Shape := ⟨2, ![8, 1024]⟩
abbrev S512x1024 : Shape := ⟨2, ![512, 1024]⟩
abbrev S1x1024 : Shape := ⟨2, ![1, 1024]⟩
abbrev S1024x256 : Shape := ⟨2, ![1024, 256]⟩
abbrev S512x256 : Shape := ⟨2, ![512, 256]⟩
abbrev S1x512x256 : Shape := ⟨3, ![1, 512, 256]⟩

abbrev nBuf : Space → Nat
  | .hbm => 10
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024x3072, .f32⟩
  | .hbm, ⟨3, _⟩ => ⟨S8x6x1024, .f32⟩
  | .hbm, ⟨4, _⟩ => ⟨S_, .i32⟩
  | .hbm, ⟨5, _⟩ => ⟨S_, .f32⟩
  | .hbm, ⟨6, _⟩ => ⟨S8x8x1024, .f32⟩
  | .hbm, ⟨7, _⟩ => ⟨S1024x3072, .bf16⟩
  | .hbm, ⟨8, _⟩ => ⟨S8x4096x1024, .bf16⟩
  | .hbm, ⟨9, _⟩ => ⟨S8x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1024x3072, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S8x4096x1024 : Shape := ⟨3, ![8, 4096, 1024]⟩
abbrev S8x6144 : Shape := ⟨2, ![8, 6144]⟩
abbrev S1024x3072 : Shape := ⟨2, ![1024, 3072]⟩
abbrev S8x1x6144 : Shape := ⟨3, ![8, 1, 6144]⟩
abbrev S8x1x1024 : Shape := ⟨3, ![8, 1, 1024]⟩
abbrev S_ : Shape := ⟨0, ![]⟩
abbrev S8x4096x3072 : Shape := ⟨3, ![8, 4096, 3072]⟩

abbrev nBuf : Space → Nat
  | .hbm => 24
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024x3072, .f32⟩
  | .hbm, ⟨3, _⟩ => ⟨S8x1x6144, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S_, .f32⟩
  | .hbm, ⟨11, _⟩ => ⟨S8x1x1024, .f32⟩
  | .hbm, ⟨12, _⟩ => ⟨S8x1x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S8x4096x3072, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S8x4096x1024, .bf16⟩
  | .hbm, ⟨22, _⟩ => ⟨S8x4096x1024, .f32⟩
  | .hbm, ⟨23, _⟩ => ⟨S8x4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== Proof.Block.lean ====
/-
  What the dense attention's body leaves in its output block, read as two rounds over the seventeen chunks of 256 keys:
  the running maximum of a row's scores, then the running sum of exp(score - maximum) times the values.  The generated
  output (two stores, one for each pair of heads) is shown to be these rounds' text, whatever the floats are.
-/
module

public import proofs.«01_k».proof.Proof.Gen.KernelIdeal.Value
public import Idealize.ShloMosaic.Lib.Pointwise

@[expose] public section

set_option maxRecDepth 16384

noncomputable section

namespace Cert.KernelIdeal.Attn

open Idealize.ShloMosaic Idealize.SL.Sem Cert.KernelIdeal Cert.KernelIdeal.Gen
open Idealize.ShloMosaic.Pipeline (Dat)

variable {F : FTy → Type} [FloatOps F]

theorem chunk_inb (n : Fin 17) : ∀ a, (![0, 256 * n.val, 0] : Fin 3 → Nat) a + S1x256x128.size a ≤ S1x4352x128.size a := by
  revert n; decide

/-- Chunk `n` of a block of keys or of values: rows `256 n … 256 n + 255`. -/
def chunk (x : Vec F S1x4352x128 .bf16) (n : Fin 17) : FVec F S256x128 .bf16 :=
  shapeCast S256x128 (View.ld x (Rect.unit (s := S1x4352x128) ![0, 256 * n.val, 0] S1x256x128.size (chunk_inb n))) shapeCasts_S1x256x128_S256x128

/-- The scores of a chunk's keys. -/
def scores (q : FVec F S512x128 .bf16) (k : FVec F S256x128 .bf16) : FVec F S512x256 .f32 :=
  matmul dot_S512x128_S256x128_S512x256_1_1_0_0_n_n none q k (constant S512x256 .f32 0x00000000#32)

def lower (s : FVec F S512x256 .f32) : FVec F S512x128 .f32 := extractStridedSlice S512x128 ![0, 0] s slices_S512x256_o0_0_S512x128
def upper (s : FVec F S512x256 .f32) : FVec F S512x128 .f32 := extractStridedSlice S512x128 ![0, 128] s slices_S512x256_o0_128_S512x128

/-- The lanewise maximum over the chunks `0 … n`. -/
def maxTo (q : FVec F S512x128 .bf16) (ks : Fin 17 → FVec F S256x128 .bf16) : (n : ℕ) → n < 17 → FVec F S512x128 .f32
  | 0, h => maximumf (lower (scores q (ks ⟨0, h⟩))) (upper (scores q (ks ⟨0, h⟩)))
  | n + 1, h => maximumf (maximumf (maxTo q ks n (by omega)) (lower (scores q (ks ⟨n + 1, h⟩)))) (upper (scores q (ks ⟨n + 1, h⟩)))

/-- A row's largest score. -/
def rowMax (q : FVec F S512x128 .bf16) (ks : Fin 17 → FVec F S256x128 .bf16) : FVec F S512x1 .f32 :=
  shapeCast S512x1 (multiReduction .maximumf [1] S512 (maxTo q ks 16 (by decide)) 0xFF800000#32 reduces_S512x128_S512 (.inl rfl) rfl) shapeCasts_S512_S512x1

/-- A chunk's part of the sum of exp(score - m) times the values. -/
def part (q : FVec F S512x128 .bf16) (m : FVec F S512x1 .f32) (k v : FVec F S256x128 .bf16) : FVec F S512x128 .f32 :=
  matmul dot_S512x256_S256x128_S512x128_1_0_0_1_n_n none
    (truncf .bf16 (exp (subf (scores q k) (broadcastTo S512x256 m broadcasts_S512x1_S512x256))) bitsLt_bf16_f32) v
    (constant S512x128 .f32 0x00000000#32)

/-- The sum over the chunks `0 … n`. -/
def sumTo (q : FVec F S512x128 .bf16) (m : FVec F S512x1 .f32) (ks vs : Fin 17 → FVec F S256x128 .bf16) :
    (n : ℕ) → n < 17 → FVec F S512x128 .f32
  | 0, h => part q m (ks ⟨0, h⟩) (vs ⟨0, h⟩)
  | n + 1, h => addf (sumTo q m ks vs n (by omega)) (part q m (ks ⟨n + 1, h⟩) (vs ⟨n + 1, h⟩))

/-- One head's numerators and, in the other half of the lanes, its denominator. -/
def head (q : FVec F S512x128 .bf16) (ks vs : Fin 17 → FVec F S256x128 .bf16) : FVec F S512x128 .f32 :=
  sumTo q (rowMax q ks) ks vs 16 (by decide)

def lanes : IVec S512x128 32 := iota .tc S512x128 32 [1] iota_S512x128_d1_w32

/-- The queries of the pair's first head: the other head's lanes are zero. -/
def firstOf (q : FVec F S512x128 .bf16) : FVec F S512x128 .bf16 :=
  select (cmpi .slt lanes (broadcast S512x128 64#32)) q (broadcast S512x128 (Scalar.ofBits .bf16 0x0000#16))
/-- and those of the second. -/
def secondOf (q : FVec F S512x128 .bf16) : FVec F S512x128 .bf16 :=
  select (cmpi .sge lanes (broadcast S512x128 64#32)) q (broadcast S512x128 (Scalar.ofBits .bf16 0x0000#16))

/-- The quotients of a pair of heads, each head's in its own half of the lanes. -/
def join (a b : FVec F S512x128 .f32) : FVec F S512x128 .f32 :=
  select (cmpi .slt lanes (broadcast S512x128 64#32)) (divf a (dynamicRotate 1 64#32 none a rotates_S512x128_d1))
    (divf (dynamicRotate 1 64#32 none b rotates_S512x128_d1) b)

/-- The two heads that read one store's 128 lanes of queries. -/
def pair (x : Vec F S1x512x128 .bf16) (ks vs : Fin 17 → FVec F S256x128 .bf16) : FVec F S512x128 .f32 :=
  join (head (firstOf (shapeCast S512x128 x shapeCasts_S1x512x128_S512x128)) ks vs)
    (head (secondOf (shapeCast S512x128 x shapeCasts_S1x512x128_S512x128)) ks vs)

def stored (x : FVec F S512x128 .f32) : FVec F S1x512x128 .bf16 :=
  shapeCast S1x512x128 (truncf .bf16 x bitsLt_bf16_f32) shapeCasts_S512x128_S1x512x128

theorem out_eq (x0 : Vec F S1x512x256 .bf16) (x1 x2 : Vec F S1x4352x128 .bf16) :
    out0_3 x0 x1 x2 = View.canon [⟨r0_18, stored (pair (View.ld x0 r0_18) (chunk x1) (chunk x2))⟩,
      ⟨r0_17, stored (pair (View.ld x0 r0_17) (chunk x1) (chunk x2))⟩] := rfl

end Cert.KernelIdeal.Attn

end
-- ==== Proof.BlockRead.lean ====
/-
  The block's text read at an index over the extended reals.
-/
module

public import proofs.«01_k».proof.Proof.Block

@[expose] public section

set_option maxRecDepth 16384

noncomputable section

namespace Cert.KernelIdeal.Attn

open Idealize.ShloMosaic Idealize.SL.Sem Cert.KernelIdeal Cert.KernelIdeal.Gen

theorem negInf : Ideal.ofBits FTy.f32 0xFF800000#32 = (⊥ : EReal) := by
  simp [Ideal.ofBits, Ideal.ieee]

theorem scores_apply (q : FVec Ideal S512x128 .bf16) (k : FVec Ideal S256x128 .bf16) (r : Fin 512) (j : Fin 256) :
    scores q k (ix2 r j) = ∑ l : Fin 128, q (ix2 r l) * k (ix2 j l) := by
  pointwise [scores]

theorem lower_apply (s : FVec Ideal S512x256 .f32) (r : Fin 512) (l : Fin 128) :
    lower s (ix2 r l) = s (ix2 r ⟨l.val, by omega⟩) := by
  pointwise [lower]

theorem upper_apply (s : FVec Ideal S512x256 .f32) (r : Fin 512) (l : Fin 128) :
    upper s (ix2 r l) = s (ix2 r ⟨128 + l.val, by omega⟩) := by
  pointwise [upper]

theorem max_apply (a b : FVec Ideal S512x128 .f32) (i : S512x128.Idx) : maximumf a b i = max (a i : EReal) (b i) := by
  pointwise

theorem maxTo_le (q : FVec Ideal S512x128 .bf16) (ks : Fin 17 → FVec Ideal S256x128 .bf16) (b : EReal) (r : Fin 512) (l : Fin 128) (n : ℕ) (h : n < 17) :
    (maxTo q ks n h (ix2 r l) : EReal) ≤ b ↔ ∀ c : Fin 17, c.val ≤ n →
      (scores q (ks c) (ix2 r ⟨l.val, by omega⟩) : EReal) ≤ b ∧ (scores q (ks c) (ix2 r ⟨128 + l.val, by omega⟩) : EReal) ≤ b := by
  induction n with
  | zero =>
    unfold maxTo
    rw [max_apply, max_le_iff, lower_apply, upper_apply]
    refine ⟨fun H c hc => ?_, fun H => H ⟨0, h⟩ le_rfl⟩
    obtain rfl : c = ⟨0, h⟩ := Fin.ext (Nat.le_zero.mp hc)
    exact H
  | succ n ih =>
    unfold maxTo
    rw [max_apply, max_apply, max_le_iff, max_le_iff, ih (by omega), lower_apply, upper_apply]
    refine ⟨fun H c hc => ?_, fun H => ⟨⟨fun c hc => H c (by omega), (H ⟨n + 1, h⟩ le_rfl).1⟩, (H ⟨n + 1, h⟩ le_rfl).2⟩⟩
    by_cases e : c.val ≤ n
    · exact H.1.1 c e
    · obtain rfl : c = ⟨n + 1, h⟩ := Fin.ext (by show c.val = n + 1; omega)
      exact ⟨H.1.2, H.2⟩

/-- A row's maximum is the least bound of the scores of all the keys. -/
theorem rowMax_le (q : FVec Ideal S512x128 .bf16) (ks : Fin 17 → FVec Ideal S256x128 .bf16) (b : EReal) (r : Fin 512) :
    (rowMax q ks (ix2 r 0) : EReal) ≤ b ↔ ∀ (c : Fin 17) (j : Fin 256), (scores q (ks c) (ix2 r j) : EReal) ≤ b := by
  have e : (rowMax q ks (ix2 r 0) : EReal) = Finset.univ.fold max (⊥ : EReal) fun l : Fin 128 => (maxTo q ks 16 (by decide) (ix2 r l) : EReal) := by
    pointwise [rowMax]
    rw [show Ideal.ofBits FTy.f32 4286578688#32 = (⊥ : EReal) by rw [negInf]]
  rw [e, Finset.fold_max_le]
  refine ⟨fun H c j => ?_, fun H => ⟨bot_le, fun l _ => (maxTo_le q ks b r l 16 (by decide)).2 fun c _ => ⟨H c _, H c _⟩⟩⟩
  by_cases hj : j.val < 128
  · exact ((maxTo_le q ks b r ⟨j.val, hj⟩ 16 (by decide)).1 (H.2 _ (Finset.mem_univ _)) c (by omega)).1
  · have := ((maxTo_le q ks b r ⟨j.val - 128, by omega⟩ 16 (by decide)).1 (H.2 _ (Finset.mem_univ _)) c (by omega)).2
    convert this using 3
    exact Fin.ext (by show j.val = 128 + (j.val - 128); omega)

theorem part_apply (q : FVec Ideal S512x128 .bf16) (m : FVec Ideal S512x1 .f32) (k v : FVec Ideal S256x128 .bf16) (r : Fin 512) (l : Fin 128) :
    part q m k v (ix2 r l) = ∑ j : Fin 256, Ideal.exp ((scores q k (ix2 r j) : EReal) - m (ix2 r 0)) * v (ix2 j l) := by
  pointwise [part]

theorem add_apply (a b : FVec Ideal S512x128 .f32) (i : S512x128.Idx) : addf a b i = (a i : EReal) + b i := by
  pointwise

theorem sumTo_apply (q : FVec Ideal S512x128 .bf16) (m : FVec Ideal S512x1 .f32) (ks vs : Fin 17 → FVec Ideal S256x128 .bf16) (i : S512x128.Idx)
    (n : ℕ) (h : n < 17) :
    (sumTo q m ks vs n h i : EReal) = ∑ c ∈ Finset.range (n + 1), if hc : c < 17 then (part q m (ks ⟨c, hc⟩) (vs ⟨c, hc⟩) i : EReal) else 0 := by
  induction n with
  | zero => simp [sumTo]
  | succ n ih => rw [sumTo, add_apply, ih (by omega), Finset.sum_range_succ _ (n + 1), dif_pos h]

theorem head_apply (q : FVec Ideal S512x128 .bf16) (ks vs : Fin 17 → FVec Ideal S256x128 .bf16) (r : Fin 512) (l : Fin 128) :
    (head q ks vs (ix2 r l) : EReal) = ∑ c : Fin 17, ∑ j : Fin 256,
      Ideal.exp ((scores q (ks c) (ix2 r j) : EReal) - rowMax q ks (ix2 r 0)) * vs c (ix2 j l) := by
  rw [head, sumTo_apply, Finset.sum_range]
  refine Finset.sum_congr rfl fun c _ => ?_
  rw [dif_pos c.isLt, part_apply]

theorem lane_lt (l : Fin 128) : IntOp.cmpi CmpIPredicate.slt (BitVec.ofNat 32 l.val) 64#32 = if l.val < 64 then 1#1 else 0#1 := by
  revert l; decide

theorem lane_ge (l : Fin 128) : IntOp.cmpi CmpIPredicate.sge (BitVec.ofNat 32 l.val) 64#32 = if l.val < 64 then 0#1 else 1#1 := by
  revert l; decide

theorem firstOf_apply (q : FVec Ideal S512x128 .bf16) (r : Fin 512) (l : Fin 128) :
    (firstOf q (ix2 r l) : EReal) = if l.val < 64 then (q (ix2 r l) : EReal) else 0 := by
  pointwise [firstOf, lanes]
  rw [lane_lt]
  split_ifs <;> rfl

theorem secondOf_apply (q : FVec Ideal S512x128 .bf16) (r : Fin 512) (l : Fin 128) :
    (secondOf q (ix2 r l) : EReal) = if l.val < 64 then 0 else (q (ix2 r l) : EReal) := by
  pointwise [secondOf, lanes]
  rw [lane_ge]
  split_ifs <;> rfl

theorem join_first (a b : FVec Ideal S512x128 .f32) (r : Fin 512) (l : Fin 64) :
    (join a b (ix2 r ⟨l.val, by omega⟩) : EReal) = Ideal.div (a (ix2 r ⟨l.val, by omega⟩)) (a (ix2 r ⟨64 + l.val, by omega⟩)) := by
  pointwise [join, lanes]
  rw [lane_lt ⟨l.val, by omega⟩, if_pos l.isLt]
  refine congrArg (fun x => Ideal.div _ (a (ix2 r x))) (Fin.ext ?_)
  show (l.val + 128 - 64) % 128 = 64 + l.val
  omega

theorem join_second (a b : FVec Ideal S512x128 .f32) (r : Fin 512) (l : Fin 64) :
    (join a b (ix2 r ⟨64 + l.val, by omega⟩) : EReal) = Ideal.div (b (ix2 r ⟨l.val, by omega⟩)) (b (ix2 r ⟨64 + l.val, by omega⟩)) := by
  pointwise [join, lanes]
  rw [lane_lt ⟨64 + l.val, by omega⟩, if_neg (by show ¬ (64 + l.val < 64); omega)]
  refine congrArg (fun x => Ideal.div (b (ix2 r x)) _) (Fin.ext ?_)
  show (64 + l.val + 128 - 64) % 128 = l.val
  omega

theorem chunk_apply (x : Vec Ideal S1x4352x128 .bf16) (c : Fin 17) (j : Fin 256) (l : Fin 128) :
    (chunk x c (ix2 j l) : EReal) = x (ix3 0 ⟨c.val * 256 + j.val, by omega⟩ l) := by
  have e : ∀ y : Vec Ideal S1x256x128 .bf16, (shapeCast S256x128 y shapeCasts_S1x256x128_S256x128 (ix2 j l) : EReal) = y (ix3 0 j l) := by
    intro y; pointwise
  refine (e _).trans ?_
  refine congrArg x (funext fun a => Fin.ext ?_)
  match a with
  | ⟨0, _⟩ => rfl
  | ⟨1, _⟩ => show 256 * c.val + 1 * j.val = c.val * 256 + j.val; omega
  | ⟨2, _⟩ => show 0 + 1 * l.val = l.val; omega

end Cert.KernelIdeal.Attn

end
-- ==== Proof.Softmax.lean ====
/-
  A row of attention over the extended reals: scores that are real numbers, values that are anything.  Dividing the sum
  of the weighted values by the sum of the weights is weighting by the quotients.
-/
module

public import Idealize.ShloMosaic.Lib.Pointwise

@[expose] public section

noncomputable section

namespace Cert.Attn

open Idealize.ShloMosaic

/-- Rows of an array followed by the rows of another. -/
def rows (x : (⟨3, ![8, 4096, 256]⟩ : Shape).Idx → EReal) (z : (⟨3, ![8, 256, 256]⟩ : Shape).Idx → EReal) (b : Fin 8) (k : Fin 4352) (j : Fin 256) : EReal :=
  if h : k.val < 4096 then x (ix3 b ⟨k.val, h⟩ j) else z (ix3 b ⟨k.val - 4096, by omega⟩ j)

theorem foldl_max_le {ι : Type*} (l : List ι) (f : ι → EReal) (a b : EReal) :
    l.foldl (fun r n => max r (f n)) a ≤ b ↔ a ≤ b ∧ ∀ n ∈ l, f n ≤ b := by
  induction l generalizing a with
  | nil => simp
  | cons n l ih => rw [List.foldl_cons, ih, max_le_iff, List.forall_mem_cons, and_assoc]

/-- A host maximum is the least bound of its initial value and of the elements that it reduces. -/
theorem hostMax_le {s t u : Shape} {axes : List (Fin s.rank)} (x : s.Idx → EReal) (init : u.Idx → EReal) (h : s.ReducesTo axes t)
    (hu : 0 < u.numel) (j : t.Idx) (b : EReal) :
    Host.reduce (α := EReal) max x init h hu j ≤ b ↔ init (Shape.Idx.first hu) ≤ b ∧ ∀ i, h.drop i = j → x i ≤ b := by
  refine (foldl_max_le _ (fun n => x (s.rowMajor.symm n)) _ b).trans (and_congr_right fun _ => ?_)
  refine ⟨fun H i hi => ?_, fun H n hn => H _ (by simpa using hn)⟩
  have := H (s.rowMajor i) (by simpa using hi)
  simpa using this

theorem sum_mul_real {ι : Type*} (s : Finset ι) (f : ι → EReal) (c : ℝ) (hc : 0 ≤ c) : (∑ k ∈ s, f k) * (c : EReal) = ∑ k ∈ s, f k * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- `s` are the scores, `M` and `M'` two spellings of their maximum. -/
theorem softmax_row {ι : Type*} [Fintype ι] [Nonempty ι] (s : ι → ℝ) (v : ι → EReal) (M M' : EReal)
    (hM : ∀ b, M ≤ b ↔ ∀ k, (s k : EReal) ≤ b) (hM' : ∀ b, M' ≤ b ↔ ∀ k, (s k : EReal) ≤ b) :
    Ideal.div (∑ k, Ideal.exp ((s k : EReal) - M) * v k) (∑ k, Ideal.exp ((s k : EReal) - M) * 1)
      = ∑ k, v k * Ideal.div (Ideal.exp ((s k : EReal) - M')) (∑ k', Ideal.exp ((s k' : EReal) - M')) := by
  obtain rfl : M = M' := eq_of_forall_ge_iff fun b => (hM b).trans (hM' b).symm
  obtain ⟨k0, hk0⟩ := Finite.exists_max s
  obtain rfl : M = (s k0 : EReal) := le_antisymm ((hM _).2 fun k => by exact_mod_cast hk0 k) ((hM M).1 le_rfl k0)
  have hp : ∀ k, Ideal.exp ((s k : EReal) - (s k0 : EReal)) = ((Real.exp (s k - s k0) : ℝ) : EReal) := fun k => by
    rw [← EReal.coe_sub]; rfl
  simp only [hp, mul_one]
  rw [← coe_sum]
  have hS : 0 < ∑ k, Real.exp (s k - s k0) := Finset.sum_pos (fun k _ => Real.exp_pos _) Finset.univ_nonempty
  have hd : ∀ x : EReal, Ideal.div x ((∑ k, Real.exp (s k - s k0) : ℝ) : EReal) = x * (((∑ k, Real.exp (s k - s k0))⁻¹ : ℝ) : EReal) := fun x => by
    rw [Ideal.div, if_neg (by exact_mod_cast hS.ne'), EReal.coe_inv]
  simp only [hd]
  rw [sum_mul_real _ _ _ (inv_nonneg.2 hS.le)]
  refine Finset.sum_congr rfl fun k _ => ?_
  rw [mul_comm _ (v k), mul_assoc]

end Cert.Attn

end
-- ==== Proof.Arrays.lean ====
/-
  The three arrays that the dense attention is handed, read at an index: the queries scaled, each head's keys twice,
  each head's values followed by ones.
-/
module

public import proofs.«01_k».proof.Proof.BlockRead
public import proofs.«01_k».proof.Proof.Softmax
public import Idealize.ShloMosaic.Lib.StableHlo.ReadAt

@[expose] public section

set_option maxRecDepth 16384

noncomputable section

namespace Cert.KernelIdeal.Attn

open Cert.Attn (rows)
open Idealize.ShloMosaic Idealize.ShloMosaic.TcCoe Idealize.SL.Sem Cert.KernelIdeal Cert.KernelIdeal.Gen

variable (m : (ℓ : Loc nD τ sig) → Buf (Elt Ideal) ℓ)

/-- The keys as the host lays them out: every head's 64 lanes written twice. -/
def laidKeys (x : FVec Ideal S8x4096x256 .f32) (z : FVec Ideal S8x256x256 .f32) : FVec Ideal S8x4352x512 .bf16 :=
  truncf .bf16 (concatenate S8x4352x512 1
    [⟨S8x4096x512, shapeCast S8x4096x512 (broadcastInDim S8x4096x4x2x64 ![0, 1, 2, 3, 4] bcast_S8x4096x4x1x64_S8x4096x4x2x64_0_1_2_3_4
        (shapeCast S8x4096x4x1x64 x shapeCasts_S8x4096x256_S8x4096x4x1x64)) shapeCasts_S8x4096x4x2x64_S8x4096x512⟩,
     ⟨S8x256x512, shapeCast S8x256x512 (broadcastInDim S8x256x4x2x64 ![0, 1, 2, 3, 4] bcast_S8x256x4x1x64_S8x256x4x2x64_0_1_2_3_4
        (shapeCast S8x256x4x1x64 z shapeCasts_S8x256x256_S8x256x4x1x64)) shapeCasts_S8x256x4x2x64_S8x256x512⟩]
    concatenates_S8x4096x512_S8x256x512_S8x4352x512_d1) bitsLt_bf16_f32

/-- The values as the host lays them out: every head's 64 lanes, then 64 ones. -/
def laidValues (x : FVec Ideal S8x4096x256 .f32) (z : FVec Ideal S8x256x256 .f32) : FVec Ideal S8x4352x512 .bf16 :=
  truncf .bf16 (concatenate S8x4352x512 1
    [⟨S8x4096x512, shapeCast S8x4096x512 (concatenate S8x4096x4x128 3 [⟨S8x4096x4x64, shapeCast S8x4096x4x64 x shapeCasts_S8x4096x256_S8x4096x4x64⟩,
        ⟨S8x4096x4x64, broadcastInDim S8x4096x4x64 ![] bcast_S_S8x4096x4x64 (constant S_ .f32 0x3F800000#32)⟩]
        concatenates_S8x4096x4x64_S8x4096x4x64_S8x4096x4x128_d3) shapeCasts_S8x4096x4x128_S8x4096x512⟩,
     ⟨S8x256x512, shapeCast S8x256x512 (concatenate S8x256x4x128 3 [⟨S8x256x4x64, shapeCast S8x256x4x64 z shapeCasts_S8x256x256_S8x256x4x64⟩,
        ⟨S8x256x4x64, broadcastInDim S8x256x4x64 ![] bcast_S_S8x256x4x64 (constant S_ .f32 0x3F800000#32)⟩]
        concatenates_S8x256x4x64_S8x256x4x64_S8x256x4x128_d3) shapeCasts_S8x256x4x128_S8x256x512⟩]
    concatenates_S8x4096x512_S8x256x512_S8x4352x512_d1) bitsLt_bf16_f32

theorem V_queries (c : Dev nD) : V m c main_v2 = (truncf .bf16 (mulf (m ((c : Thread nD τ).loc main_arg0) : FVec Ideal S8x4096x1024 .f32)
    (broadcastInDim S8x4096x1024 ![] bcast_S_S8x4096x1024 (constant S_ .f32 0x3E000000#32))) bitsLt_bf16_f32 : FVec Ideal S8x4096x1024 .bf16) := by
  unfold V; after_results

theorem V_keys (c : Dev nD) : V m c main_v10 = laidKeys (m ((c : Thread nD τ).loc main_arg1)) (m ((c : Thread nD τ).loc main_arg3)) := by
  unfold V; after_results; rfl

theorem V_values (c : Dev nD) : V m c main_v20 = laidValues (m ((c : Thread nD τ).loc main_arg2)) (m ((c : Thread nD τ).loc main_arg4)) := by
  unfold V; after_results; rfl

theorem queries_apply (x : FVec Ideal S8x4096x1024 .f32) (i : S8x4096x1024.Idx) :
    ((truncf .bf16 (mulf x (broadcastInDim S8x4096x1024 ![] bcast_S_S8x4096x1024 (constant S_ .f32 0x3E000000#32))) bitsLt_bf16_f32 : FVec Ideal S8x4096x1024 .bf16) i : EReal)
      = (x i : EReal) * Ideal.ofBits .f32 0x3E000000#32 := by
  idx_vars i
  pointwise

theorem keys_apply (x : FVec Ideal S8x4096x256 .f32) (z : FVec Ideal S8x256x256 .f32) (b : Fin 8) (k : Fin 4352) (h : Fin 4) (l : Fin 128) :
    (laidKeys x z (ix3 b k ⟨h.val * 128 + l.val, by omega⟩) : EReal) = rows x z b k ⟨h.val * 64 + l.val % 64, by omega⟩ := by
  pointwise [laidKeys, rows]
  have e : h.val * 64 + (h.val * 128 + l.val) % 64 = h.val * 64 + l.val % 64 := by omega
  simp only [e]

theorem values_apply (x : FVec Ideal S8x4096x256 .f32) (z : FVec Ideal S8x256x256 .f32) (b : Fin 8) (k : Fin 4352) (h : Fin 4) (l : Fin 64) :
    (laidValues x z (ix3 b k ⟨h.val * 128 + l.val, by omega⟩) : EReal) = rows x z b k ⟨h.val * 64 + l.val, by omega⟩ := by
  pointwise [laidValues, rows]
  have e : (h.val * 128 + l.val) % 128 = l.val := by omega
  simp only [e, l.isLt, dite_true]

theorem ones_apply (x : FVec Ideal S8x4096x256 .f32) (z : FVec Ideal S8x256x256 .f32) (b : Fin 8) (k : Fin 4352) (h : Fin 4) (l : Fin 64) :
    (laidValues x z (ix3 b k ⟨h.val * 128 + (64 + l.val), by omega⟩) : EReal) = 1 := by
  pointwise [laidValues]
  have e : ¬ (h.val * 128 + (64 + l.val)) % 128 < 64 := by omega
  simp only [e, dite_false, dite_eq_ite, ite_self]

end Cert.KernelIdeal.Attn

end
-- ==== Proof.RefRead.lean ====
/-
  The reference read at an index: its scores, their maximum, and the weighted sum of the values.
-/
module

public import proofs.«01_k».proof.Proof.Gen.ReferenceIdeal.Read
public import proofs.«01_k».proof.Proof.Softmax

@[expose] public section

set_option maxRecDepth 16384

noncomputable section

namespace Cert.ReferenceIdeal.Attn

open Cert.ReferenceIdeal.Read
open Cert.Attn (rows hostMax_le)
open Idealize.ShloMosaic Idealize.SL.Sem Cert.ReferenceIdeal Cert.ReferenceIdeal.Gen

variable (x0 : FVec Ideal S8x4096x1024 .f32) (x1 x2 : FVec Ideal S8x4096x256 .f32) (x3 x4 : FVec Ideal S8x256x256 .f32)

theorem score_apply (b : Fin 8) (h g : Fin 4) (t : Fin 4096) (k : Fin 4352) :
    (val_main_v8 (F := Ideal) x0 x1 x3 (ix5 b h g t k) : EReal)
      = (∑ e : Fin 64, rows x1 x3 b k ⟨h.val * 64 + e.val, by omega⟩ * (x0 (ix3 b t ⟨h.val * 256 + g.val * 64 + e.val, by omega⟩) : EReal))
        * Ideal.ofBits .f32 0x3E000000#32 := by
  have el : ∀ e, idx_main_v3 (lidx_main_v5 (idx_main_v6 (ix5 b h g t k)) e) = ix3 b k ⟨h.val * 64 + e.val, by omega⟩ := fun e => funext fun a => Fin.ext (match a with
    | ⟨0, _⟩ => by show (((b.val * 4352 + k.val) * 4 + h.val) * 64 + e.val) / 1114112 = b.val; omega
    | ⟨1, _⟩ => by show (((b.val * 4352 + k.val) * 4 + h.val) * 64 + e.val) / 256 % 4352 = k.val; omega
    | ⟨2, _⟩ => by show (((b.val * 4352 + k.val) * 4 + h.val) * 64 + e.val) % 256 = h.val * 64 + e.val; omega)
  have er : ∀ e, idx_main_v2 (ridx_main_v5 (idx_main_v6 (ix5 b h g t k)) e) = ix3 b t ⟨h.val * 256 + g.val * 64 + e.val, by omega⟩ := fun e => funext fun a => Fin.ext (match a with
    | ⟨0, _⟩ => by show ((((b.val * 4096 + t.val) * 4 + h.val) * 4 + g.val) * 64 + e.val) / 4194304 = b.val; omega
    | ⟨1, _⟩ => by show ((((b.val * 4096 + t.val) * 4 + h.val) * 4 + g.val) * 64 + e.val) / 1024 % 4096 = t.val; omega
    | ⟨2, _⟩ => by show ((((b.val * 4096 + t.val) * 4 + h.val) * 4 + g.val) * 64 + e.val) % 1024 = h.val * 256 + g.val * 64 + e.val; omega)
  rw [val_main_v8_apply, val_main_v6_apply, val_main_v7_apply, val_main_v5_apply, Ideal.mulf_def]
  refine congrArg (· * _) (Finset.sum_congr rfl fun e _ => ?_)
  rw [val_main_v3_apply, val_main_v2_apply, el, er]
  pointwise [val_main_v0, rows]

theorem negInf : Ideal.ofBits FTy.f32 0xFF800000#32 = (⊥ : EReal) := by
  simp [Ideal.ofBits, Ideal.ieee]

/-- The maximum that the reference subtracts is the least bound of a row's scores. -/
theorem max_le (b : Fin 8) (h g : Fin 4) (t : Fin 4096) (u : EReal) :
    (val_main_v11 (F := Ideal) x0 x1 x3 (ix4 b h g t) : EReal) ≤ u ↔ ∀ k, (val_main_v8 (F := Ideal) x0 x1 x3 (ix5 b h g t k) : EReal) ≤ u := by
  have e : (val_main_v11 (F := Ideal) x0 x1 x3 (ix4 b h g t) : EReal) = max ⊥ (val_main_v9 (F := Ideal) x0 x1 x3 (ix4 b h g t) : EReal) := by
    rw [val_main_v11_apply, val_main_v10_apply]
    generalize val_main_v9 (F := Ideal) x0 x1 x3 (ix4 b h g t) = y
    show max (Ideal.ofBits .f32 0xFF800000#32 : EReal) y = max ⊥ y
    rw [negInf]
  have d : ∀ (b : Fin 8) (h g : Fin 4) (t : Fin 4096) (k : Fin 4352),
      reducesTo_S8x4x4x4096x4352_S8x4x4x4096_d4.drop (ix5 b h g t k) = ix4 b h g t := fun b h g t k => funext fun a => match a with
    | ⟨0, _⟩ => rfl
    | ⟨1, _⟩ => rfl
    | ⟨2, _⟩ => rfl
    | ⟨3, _⟩ => rfl
  rw [e, max_le_iff, val_main_v9]
  refine (and_congr_right fun _ => hostMax_le _ _ _ _ _ u).trans ?_
  rw [val_main_cst_0]
  refine ⟨fun H k => H.2.2 _ (d b h g t k), fun H => ⟨bot_le, (le_of_eq negInf).trans bot_le, fun i hi => ?_⟩⟩
  idx_vars i
  rw [d] at hi
  obtain ⟨rfl, rfl, rfl, rfl⟩ := (ix4_inj _ _ _ _ _ _ _ _).1 hi
  exact H _

theorem exp_apply (b : Fin 8) (h g : Fin 4) (t : Fin 4096) (k : Fin 4352) :
    (val_main_v15 (F := Ideal) x0 x1 x3 (ix5 b h g t k) : EReal)
      = Ideal.exp ((val_main_v8 (F := Ideal) x0 x1 x3 (ix5 b h g t k) : EReal) - val_main_v11 (F := Ideal) x0 x1 x3 (ix4 b h g t)) := by
  have e : idx_main_v12 (idx_main_v13 (ix5 b h g t k)) = ix4 b h g t := funext fun a => match a with
    | ⟨0, _⟩ => rfl
    | ⟨1, _⟩ => rfl
    | ⟨2, _⟩ => rfl
    | ⟨3, _⟩ => rfl
  rw [val_main_v15_apply, val_main_v14_apply, val_main_v13_apply, val_main_v12_apply, e, Ideal.hostUnary_exp_def, Ideal.subf_def]

theorem total_apply (b : Fin 8) (h g : Fin 4) (t : Fin 4096) (k : Fin 4352) :
    (val_main_v18 (F := Ideal) x0 x1 x3 (ix5 b h g t k) : EReal) = ∑ k' : Fin 4352, (val_main_v15 (F := Ideal) x0 x1 x3 (ix5 b h g t k') : EReal) := by
  have e : idx_main_v17 (idx_main_v18 (ix5 b h g t k)) = ix4 b h g t := funext fun a => match a with
    | ⟨0, _⟩ => rfl
    | ⟨1, _⟩ => rfl
    | ⟨2, _⟩ => rfl
    | ⟨3, _⟩ => rfl
  have e' : ∀ k', idx_main_v16 (ix4 b h g t) k' = ix5 b h g t k' := fun k' => funext fun a => match a with
    | ⟨0, _⟩ => rfl
    | ⟨1, _⟩ => rfl
    | ⟨2, _⟩ => rfl
    | ⟨3, _⟩ => rfl
    | ⟨4, _⟩ => rfl
  rw [val_main_v18_apply, val_main_v17_apply, e, val_main_v16_apply]
  simp only [e']
  generalize val_main_v15 (F := Ideal) x0 x1 x3 = y
  exact (congrArg (· + _) Ideal.ofBits_zero_f32).trans (zero_add _)

theorem laid_apply (b : Fin 8) (k : Fin 4352) (h : Fin 4) (d : Fin 64) :
    (val_main_v4 (F := Ideal) x2 x4 (ix4 b k h d) : EReal) = rows x2 x4 b k ⟨h.val * 64 + d.val, by omega⟩ := by
  pointwise [val_main_v4, val_main_v1, rows]

theorem value_apply (b : Fin 8) (h g : Fin 4) (t : Fin 4096) (d : Fin 64) :
    (val_main_v23 (F := Ideal) x0 x1 x2 x3 x4 (ix3 b t ⟨h.val * 256 + g.val * 64 + d.val, by omega⟩) : EReal)
      = ∑ k : Fin 4352, rows x2 x4 b k ⟨h.val * 64 + d.val, by omega⟩
          * Ideal.div (Ideal.exp ((val_main_v8 (F := Ideal) x0 x1 x3 (ix5 b h g t k) : EReal) - val_main_v11 (F := Ideal) x0 x1 x3 (ix4 b h g t)))
            (∑ k' : Fin 4352, Ideal.exp ((val_main_v8 (F := Ideal) x0 x1 x3 (ix5 b h g t k') : EReal) - val_main_v11 (F := Ideal) x0 x1 x3 (ix4 b h g t))) := by
  have e : idx_main_v21 (idx_main_v22 (ix3 b t ⟨h.val * 256 + g.val * 64 + d.val, by omega⟩)) = ix5 b h d g t := funext fun a => Fin.ext (match a with
    | ⟨0, _⟩ => by show ((b.val * 4096 + t.val) * 1024 + (h.val * 256 + g.val * 64 + d.val)) / 4194304 = b.val; omega
    | ⟨1, _⟩ => by show ((b.val * 4096 + t.val) * 1024 + (h.val * 256 + g.val * 64 + d.val)) / 256 % 4 = h.val; omega
    | ⟨2, _⟩ => by show ((b.val * 4096 + t.val) * 1024 + (h.val * 256 + g.val * 64 + d.val)) % 64 = d.val; omega
    | ⟨3, _⟩ => by show ((b.val * 4096 + t.val) * 1024 + (h.val * 256 + g.val * 64 + d.val)) / 64 % 4 = g.val; omega
    | ⟨4, _⟩ => by show ((b.val * 4096 + t.val) * 1024 + (h.val * 256 + g.val * 64 + d.val)) / 1024 % 4096 = t.val; omega)
  have el : ∀ k, lidx_main_v20 (ix5 b h d g t) k = ix4 b k h d := fun k => funext fun a => match a with
    | ⟨0, _⟩ => rfl
    | ⟨1, _⟩ => rfl
    | ⟨2, _⟩ => rfl
    | ⟨3, _⟩ => rfl
  have er : ∀ k, ridx_main_v20 (ix5 b h d g t) k = ix5 b h g t k := fun k => funext fun a => match a with
    | ⟨0, _⟩ => rfl
    | ⟨1, _⟩ => rfl
    | ⟨2, _⟩ => rfl
    | ⟨3, _⟩ => rfl
    | ⟨4, _⟩ => rfl
  rw [val_main_v23_apply, Ideal.truncf_def, val_main_v22_apply, val_main_v21_apply, e, val_main_v20_apply]
  refine Finset.sum_congr rfl fun k _ => ?_
  rw [el, er, laid_apply, val_main_v19_apply, Ideal.hostDivf_def, total_apply, exp_apply]
  simp only [exp_apply]

end Cert.ReferenceIdeal.Attn

end
-- ==== Proof.Heads.lean ====
/-
  One grid point's block of the result: each pair of heads is the softmax of the reference's scores times the values.
-/
module

public import proofs.«01_k».proof.Proof.Arrays
public import proofs.«01_k».proof.Proof.RefRead
public import Idealize.ShloMosaic.Lib.Pipeline.ValueKit

@[expose] public section

set_option maxRecDepth 16384

noncomputable section

namespace Cert.KernelIdeal.Attn

open Cert.Attn (rows sum_mul_real coe_sum softmax_row)
open Cert.ReferenceIdeal.Read (val_main_v8 val_main_v11 val_main_v23)
open Cert.ReferenceIdeal.Attn (score_apply value_apply max_le)
open Idealize.ShloMosaic Idealize.SL.Sem Cert.KernelIdeal Cert.KernelIdeal.Gen

/-- 0x3E000000 is one eighth. -/
theorem eighth : Ideal.ofBits FTy.f32 0x3E000000#32 = ((1 / 8 : ℝ) : EReal) := by
  simp [Ideal.ofBits, Ideal.ieee]
  rw [← EReal.coe_mul]
  norm_num

/-- What the precondition says of an array: every element is a real number. -/
def IsReal {s : Shape} (x : s.Idx → EReal) : Prop := ∀ i, ∃ r : ℝ, x i = (r : EReal)

variable (x0 : FVec Ideal S8x4096x1024 .f32) (x1 x2 : FVec Ideal S8x4096x256 .f32) (x3 x4 : FVec Ideal S8x256x256 .f32)

theorem rows_real (h1 : IsReal (s := S8x4096x256) x1) (h3 : IsReal (s := S8x256x256) x3) (b : Fin 8) (k : Fin 4352) (j : Fin 256) :
    ∃ r : ℝ, rows x1 x3 b k j = (r : EReal) := by
  unfold rows
  split
  · exact h1 _
  · exact h3 _

/-- The reference scales a score, the kernel its query. -/
theorem score_scaled (b : Fin 8) (h g : Fin 4) (t : Fin 4096) (k : Fin 4352) :
    (val_main_v8 (F := Ideal) x0 x1 x3 (ix5 b h g t k) : EReal)
      = ∑ e : Fin 64, (x0 (ix3 b t ⟨h.val * 256 + g.val * 64 + e.val, by omega⟩) : EReal) * Ideal.ofBits .f32 0x3E000000#32
          * rows x1 x3 b k ⟨h.val * 64 + e.val, by omega⟩ := by
  rw [score_apply, eighth, sum_mul_real _ _ _ (by norm_num)]
  refine Finset.sum_congr rfl fun e _ => ?_
  rw [mul_comm (rows x1 x3 b k _), mul_assoc, mul_comm (rows x1 x3 b k _), ← mul_assoc]

theorem score_real (h0 : IsReal (s := S8x4096x1024) x0) (h1 : IsReal (s := S8x4096x256) x1) (h3 : IsReal (s := S8x256x256) x3)
    (b : Fin 8) (h g : Fin 4) (t : Fin 4096) :
    ∃ s : Fin 4352 → ℝ, ∀ k, (val_main_v8 (F := Ideal) x0 x1 x3 (ix5 b h g t k) : EReal) = (s k : EReal) := by
  suffices H : ∀ k, ∃ r : ℝ, (val_main_v8 (F := Ideal) x0 x1 x3 (ix5 b h g t k) : EReal) = (r : EReal) from
    ⟨fun k => (H k).choose, fun k => (H k).choose_spec⟩
  intro k
  choose q hq using fun e : Fin 64 => h0 (ix3 b t ⟨h.val * 256 + g.val * 64 + e.val, by omega⟩)
  choose r hr using fun e : Fin 64 => rows_real x1 x3 h1 h3 b k ⟨h.val * 64 + e.val, by omega⟩
  refine ⟨∑ e, q e * (1 / 8) * r e, ?_⟩
  rw [score_scaled, eighth, coe_sum]
  refine Finset.sum_congr rfl fun e _ => ?_
  rw [hq, hr, EReal.coe_mul, EReal.coe_mul]

theorem scores_firstOf (q : FVec Ideal S512x128 .bf16) (k : FVec Ideal S256x128 .bf16) (r : Fin 512) (j : Fin 256) :
    (scores (firstOf q) k (ix2 r j) : EReal) = ∑ e : Fin 64, (q (ix2 r ⟨e.val, by omega⟩) : EReal) * k (ix2 j ⟨e.val, by omega⟩) := by
  rw [scores_apply]
  simp only [firstOf_apply]
  refine (Fin.sum_univ_two_halves 64 64 rfl _).trans ?_
  have z : ∀ e : Fin 64, ¬ 64 + e.val < 64 := fun e => by omega
  simp only [Fin.is_lt, if_true, z, if_false, zero_mul, Finset.sum_const_zero, add_zero]

theorem scores_secondOf (q : FVec Ideal S512x128 .bf16) (k : FVec Ideal S256x128 .bf16) (r : Fin 512) (j : Fin 256) :
    (scores (secondOf q) k (ix2 r j) : EReal) = ∑ e : Fin 64, (q (ix2 r ⟨64 + e.val, by omega⟩) : EReal) * k (ix2 j ⟨64 + e.val, by omega⟩) := by
  rw [scores_apply]
  simp only [secondOf_apply]
  refine (Fin.sum_univ_two_halves 64 64 rfl _).trans ?_
  have z : ∀ e : Fin 64, ¬ 64 + e.val < 64 := fun e => by omega
  simp only [Fin.is_lt, if_true, z, if_false, zero_mul, Finset.sum_const_zero, zero_add]

/-- A head whose scores are the reference's gives the reference's row. -/
theorem head_quot (q : FVec Ideal S512x128 .bf16) (ks vs : Vec Ideal S1x4352x128 .bf16) (r : Fin 512) (d : Fin 64)
    (b : Fin 8) (h g : Fin 4) (t : Fin 4096)
    (hreal : ∃ s : Fin 4352 → ℝ, ∀ k, (val_main_v8 (F := Ideal) x0 x1 x3 (ix5 b h g t k) : EReal) = (s k : EReal))
    (hs : ∀ (c : Fin 17) (j : Fin 256), (scores q (chunk ks c) (ix2 r j) : EReal)
      = (val_main_v8 (F := Ideal) x0 x1 x3 (ix5 b h g t ⟨c.val * 256 + j.val, by omega⟩) : EReal))
    (hv : ∀ k, (vs (ix3 0 k ⟨d.val, by omega⟩) : EReal) = rows x2 x4 b k ⟨h.val * 64 + d.val, by omega⟩)
    (ho : ∀ k, (vs (ix3 0 k ⟨64 + d.val, by omega⟩) : EReal) = 1) :
    Ideal.div (head q (chunk ks) (chunk vs) (ix2 r ⟨d.val, by omega⟩)) (head q (chunk ks) (chunk vs) (ix2 r ⟨64 + d.val, by omega⟩))
      = (val_main_v23 (F := Ideal) x0 x1 x2 x3 x4 (ix3 b t ⟨h.val * 256 + g.val * 64 + d.val, by omega⟩) : EReal) := by
  have hM : ∀ u : EReal, (rowMax q (chunk ks) (ix2 r 0) : EReal) ≤ u ↔ ∀ k, (val_main_v8 (F := Ideal) x0 x1 x3 (ix5 b h g t k) : EReal) ≤ u := fun u => by
    rw [rowMax_le]
    refine ⟨fun H k => ?_, fun H c j => (hs c j).trans_le (H _)⟩
    have := (hs ⟨k.val / 256, by omega⟩ ⟨k.val % 256, by omega⟩).symm.trans_le (H _ _)
    rwa [show (⟨k.val / 256 * 256 + k.val % 256, by omega⟩ : Fin 4352) = k from Fin.ext (by dsimp only; omega)] at this
  have hM' := max_le x0 x1 x3 b h g t
  rw [value_apply, head_apply, head_apply]
  simp only [hs, chunk_apply]
  obtain ⟨s, hsr⟩ := hreal
  generalize (rowMax q (chunk ks) (ix2 r 0) : EReal) = M at hM ⊢
  generalize (val_main_v11 (F := Ideal) x0 x1 x3 (ix4 b h g t) : EReal) = M' at hM' ⊢
  simp only [hsr] at hM hM' ⊢
  rw [Fin.sum_mul_add_fin 17 256 (fun k : Fin 4352 => Ideal.exp ((s k : EReal) - M) * vs (ix3 0 k ⟨d.val, by omega⟩)),
    Fin.sum_mul_add_fin 17 256 (fun k : Fin 4352 => Ideal.exp ((s k : EReal) - M) * vs (ix3 0 k ⟨64 + d.val, by omega⟩))]
  simp only [hv, ho]
  exact softmax_row s _ M M' hM hM'

end Cert.KernelIdeal.Attn

end
-- ==== Proof.Finite.lean ====
/-
  The precondition read: every query and every key is a real number.
-/
module

public import proofs.«01_k».proof.Proof.Heads
public import proofs.«01_k».proof.Proof.Gen.Pre_finite_queries_and_keys

@[expose] public section

set_option maxRecDepth 16384

noncomputable section

namespace Cert.KernelIdeal.Attn

open Idealize.ShloMosaic Idealize.SL.Sem Cert.KernelIdeal Cert.KernelIdeal.Gen

variable (x0 : FVec Ideal S8x4096x1024 .f32) (x1 x2 : FVec Ideal S8x4096x256 .f32) (x3 x4 : FVec Ideal S8x256x256 .f32)

theorem topInf : Ideal.ofBits FTy.f32 0x7F800000#32 = (⊤ : EReal) := by
  simp [Ideal.ofBits, Ideal.ieee]

theorem real_of_abs (x : EReal) (h : max x (-x) < ⊤) : ∃ r : ℝ, x = (r : EReal) := by
  induction x with
  | bot => simp at h
  | coe r => exact ⟨r, rfl⟩
  | top => simp at h

theorem real_of_bit (x : EReal) (h : BitVec.ofBool (decide ((FloatOps.absf (F := Ideal) (φ := .f32) x : EReal) < Ideal.ofBits FTy.f32 0x7F800000#32)) = 1#1) :
    ∃ r : ℝ, x = (r : EReal) := by
  refine real_of_abs x ?_
  rw [topInf] at h
  by_contra hx
  rw [show decide ((FloatOps.absf (F := Ideal) (φ := .f32) x : EReal) < ⊤) = false from decide_eq_false hx] at h
  exact absurd h (by decide)

theorem bit_query (b : Fin 8) (k : Fin 16384) (l : Fin 256) :
    Pre_finite_queries_and_keys.fn x0 x1 x2 x3 x4 (ix3 b ⟨k.val, by omega⟩ l)
      = BitVec.ofBool (decide ((FloatOps.absf (x0 (ix3 b ⟨k.val / 4, by omega⟩ ⟨k.val % 4 * 256 + l.val, by omega⟩)) : EReal) < Ideal.ofBits FTy.f32 0x7F800000#32)) := by
  pointwise [Pre_finite_queries_and_keys.fn]

theorem bit_key (b : Fin 8) (k : Fin 4096) (l : Fin 256) :
    Pre_finite_queries_and_keys.fn x0 x1 x2 x3 x4 (ix3 b ⟨16384 + k.val, by omega⟩ l)
      = BitVec.ofBool (decide ((FloatOps.absf (x1 (ix3 b k l)) : EReal) < Ideal.ofBits FTy.f32 0x7F800000#32)) := by
  pointwise [Pre_finite_queries_and_keys.fn]

theorem bit_context (b : Fin 8) (k : Fin 256) (l : Fin 256) :
    Pre_finite_queries_and_keys.fn x0 x1 x2 x3 x4 (ix3 b ⟨20480 + k.val, by omega⟩ l)
      = BitVec.ofBool (decide ((FloatOps.absf (x3 (ix3 b k l)) : EReal) < Ideal.ofBits FTy.f32 0x7F800000#32)) := by
  pointwise [Pre_finite_queries_and_keys.fn]
  have e : ¬ 20480 + k.val < 16384 := by omega
  have e' : ¬ 20480 + k.val - 16384 < 4096 := by omega
  have e'' : 20480 + k.val - 16384 - 4096 = k.val := by omega
  simp only [e, e', e'', dif_neg, not_false_eq_true]

theorem real_of_pre (h : Pre_finite_queries_and_keys.fn x0 x1 x2 x3 x4 = fun _ => 1#1) :
    IsReal (s := S8x4096x1024) x0 ∧ IsReal (s := S8x4096x256) x1 ∧ IsReal (s := S8x256x256) x3 := by
  refine ⟨fun i => ?_, fun i => ?_, fun i => ?_⟩
  · idx_vars i
    have := real_of_bit _ ((bit_query x0 x1 x2 x3 x4 i0 ⟨i1.val * 4 + i2.val / 256, by omega⟩ ⟨i2.val % 256, by omega⟩).symm.trans (congrFun h _))
    rwa [show (⟨(i1.val * 4 + i2.val / 256) / 4, by omega⟩ : Fin 4096) = i1 from Fin.ext (by dsimp only; omega),
      show (⟨(i1.val * 4 + i2.val / 256) % 4 * 256 + i2.val % 256, by omega⟩ : Fin 1024) = i2 from Fin.ext (by dsimp only; omega)] at this
  · idx_vars i
    exact real_of_bit _ ((bit_key x0 x1 x2 x3 x4 _ _ _).symm.trans (congrFun h _))
  · idx_vars i
    exact real_of_bit _ ((bit_context x0 x1 x2 x3 x4 _ _ _).symm.trans (congrFun h _))

end Cert.KernelIdeal.Attn

end
-- ==== Proof.Result.lean ====
/-
  The whole result: every grid point writes its block of the reference's array.
-/
module

public import proofs.«01_k».proof.Proof.Finite
public import proofs.«01_k».proof.Proof.Gen.KernelIdeal.Value

@[expose] public section

set_option maxRecDepth 16384

noncomputable section

namespace Cert.KernelIdeal.Attn

open Cert.ReferenceIdeal.Read (val_main_v8 val_main_v23)
open Cert.Attn (rows)
open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

abbrev a0 (c : Dev nD) : FVec Ideal S8x4096x1024 .f32 := m ((c : Thread nD τ).loc main_arg0)
abbrev a1 (c : Dev nD) : FVec Ideal S8x4096x256 .f32 := m ((c : Thread nD τ).loc main_arg1)
abbrev a2 (c : Dev nD) : FVec Ideal S8x4096x256 .f32 := m ((c : Thread nD τ).loc main_arg2)
abbrev a3 (c : Dev nD) : FVec Ideal S8x256x256 .f32 := m ((c : Thread nD τ).loc main_arg3)
abbrev a4 (c : Dev nD) : FVec Ideal S8x256x256 .f32 := m ((c : Thread nD τ).loc main_arg4)

/-- The reference's array of the kernel's arguments. -/
abbrev result (c : Dev nD) : FVec Ideal S8x4096x1024 .bf16 :=
  val_main_v23 (F := Ideal) (a0 m c) (a1 m c) (a2 m c) (a3 m c) (a4 m c)

theorem index_q : ∀ t : Fin cfg0.N, win0_0.index t = ![t.val / 32, t.val % 8, t.val / 8 % 4] := by decide +kernel
theorem index_k : ∀ t : Fin cfg0.N, win0_1.index t = ![t.val / 32, 0, t.val / 8 % 4] := by decide +kernel
theorem index_v : ∀ t : Fin cfg0.N, win0_2.index t = ![t.val / 32, 0, t.val / 8 % 4] := by decide +kernel
theorem index_o : ∀ t : Fin cfg0.N, win0_3.index t = ![t.val / 32, t.val % 8, t.val / 8 % 4] := by decide +kernel

theorem point_lt (t : Fin cfg0.N) : t.val < 256 := lt_of_lt_of_eq t.isLt N_0

theorem queries_block (c : Dev nD) (t : Fin cfg0.N) (r : Fin 512) (l : Fin 256) :
    (iblk m c 0 t (ix3 0 r l) : EReal)
      = (a0 m c (ix3 ⟨t.val / 32, by have := point_lt t; omega⟩ ⟨t.val % 8 * 512 + r.val, by omega⟩ ⟨t.val / 8 % 4 * 256 + l.val, by omega⟩) : EReal)
        * Ideal.ofBits .f32 0x3E000000#32 := by
  refine Eq.trans ?_ (queries_apply (a0 m c) _)
  rw [← V_queries]
  blk_ext [iblk, index_q]

theorem keys_block (c : Dev nD) (t : Fin cfg0.N) (k : Fin 4352) (l : Fin 128) :
    (iblk m c 1 t (ix3 0 k l) : EReal)
      = rows (a1 m c) (a3 m c) ⟨t.val / 32, by have := point_lt t; omega⟩ k ⟨t.val / 8 % 4 * 64 + l.val % 64, by omega⟩ := by
  refine Eq.trans ?_ (keys_apply (a1 m c) (a3 m c) ⟨t.val / 32, by have := point_lt t; omega⟩ k ⟨t.val / 8 % 4, by omega⟩ l)
  rw [← V_keys]
  blk_ext [iblk, index_k]

theorem values_block (c : Dev nD) (t : Fin cfg0.N) (k : Fin 4352) (l : Fin 64) :
    (iblk m c 2 t (ix3 0 k ⟨l.val, by omega⟩) : EReal)
      = rows (a2 m c) (a4 m c) ⟨t.val / 32, by have := point_lt t; omega⟩ k ⟨t.val / 8 % 4 * 64 + l.val, by omega⟩ := by
  refine Eq.trans ?_ (values_apply (a2 m c) (a4 m c) ⟨t.val / 32, by have := point_lt t; omega⟩ k ⟨t.val / 8 % 4, by omega⟩ l)
  rw [← V_values]
  blk_ext [iblk, index_v]

theorem ones_block (c : Dev nD) (t : Fin cfg0.N) (k : Fin 4352) (l : Fin 64) :
    (iblk m c 2 t (ix3 0 k ⟨64 + l.val, by omega⟩) : EReal) = (1 : EReal) := by
  refine Eq.trans ?_ (ones_apply (a2 m c) (a4 m c) ⟨t.val / 32, by have := point_lt t; omega⟩ k ⟨t.val / 8 % 4, by omega⟩ l)
  rw [← V_values]
  blk_ext [iblk, index_v]

theorem cast_apply (x : Vec Ideal S1x512x128 .bf16) (r : Fin 512) (l : Fin 128) :
    (shapeCast S512x128 x shapeCasts_S1x512x128_S512x128 (ix2 r l) : EReal) = x (ix3 0 r l) := by
  pointwise

theorem stored_apply (x : FVec Ideal S512x128 .f32) (r : Fin 512) (l : Fin 128) : (stored x (ix3 0 r l) : EReal) = x (ix2 r l) := by
  pointwise [stored]

/-- The 128 lanes that one store writes: two heads of the reference. -/
theorem pair_apply (c : Dev nD) (t : Fin cfg0.N) (p : Fin 2) (x : Vec Ideal S1x512x128 .bf16)
    (hx : ∀ (r : Fin 512) (l : Fin 128), (x (ix3 0 r l) : EReal) = iblk m c 0 t (ix3 0 r ⟨p.val * 128 + l.val, by omega⟩))
    (h0 : IsReal (s := S8x4096x1024) (a0 m c)) (h1 : IsReal (s := S8x4096x256) (a1 m c)) (h3 : IsReal (s := S8x256x256) (a3 m c))
    (r : Fin 512) (l : Fin 128) :
    (stored (pair x (chunk (iblk m c 1 t)) (chunk (iblk m c 2 t))) (ix3 0 r l) : EReal)
      = result m c (ix3 ⟨t.val / 32, by have := point_lt t; omega⟩ ⟨t.val % 8 * 512 + r.val, by omega⟩
          ⟨t.val / 8 % 4 * 256 + (p.val * 128 + l.val), by omega⟩) := by
  rw [stored_apply, pair]
  by_cases hl : l.val < 64
  · obtain ⟨d, rfl⟩ : ∃ d : Fin 64, l = ⟨d.val, d.isLt.trans (by decide)⟩ := ⟨⟨l.val, hl⟩, rfl⟩
    rw [join_first]
    refine (head_quot (a0 m c) (a1 m c) (a2 m c) (a3 m c) (a4 m c) _ (iblk m c 1 t) (iblk m c 2 t) r d ⟨t.val / 32, by have := point_lt t; omega⟩
      ⟨t.val / 8 % 4, by omega⟩ ⟨p.val * 2, by omega⟩ ⟨t.val % 8 * 512 + r.val, by omega⟩ (score_real _ _ _ h0 h1 h3 _ _ _ _)
      (fun c' j => ?_) (fun k => values_block m c t k d) (fun k => ones_block m c t k d)).trans
      (congrArg (fun i => (result m c (ix3 _ _ i) : EReal)) (Fin.ext (by dsimp only; omega)))
    rw [scores_firstOf, score_scaled]
    refine Finset.sum_congr rfl fun e _ => ?_
    rw [cast_apply, hx, queries_block, chunk_apply, keys_block]
    refine congrArg₂ (fun i j => (a0 m c (ix3 _ _ i) : EReal) * _ * rows _ _ _ _ j) (Fin.ext ?_) (Fin.ext ?_) <;> dsimp only <;> omega
  · obtain ⟨d, rfl⟩ : ∃ d : Fin 64, l = ⟨64 + d.val, Nat.add_lt_add_left d.isLt 64⟩ := ⟨⟨l.val - 64, by omega⟩, Fin.ext (by dsimp only; omega)⟩
    rw [join_second]
    refine (head_quot (a0 m c) (a1 m c) (a2 m c) (a3 m c) (a4 m c) _ (iblk m c 1 t) (iblk m c 2 t) r d ⟨t.val / 32, by have := point_lt t; omega⟩
      ⟨t.val / 8 % 4, by omega⟩ ⟨p.val * 2 + 1, by omega⟩ ⟨t.val % 8 * 512 + r.val, by omega⟩ (score_real _ _ _ h0 h1 h3 _ _ _ _)
      (fun c' j => ?_) (fun k => values_block m c t k d) (fun k => ones_block m c t k d)).trans
      (congrArg (fun i => (result m c (ix3 _ _ i) : EReal)) (Fin.ext (by dsimp only; omega)))
    rw [scores_secondOf, score_scaled]
    refine Finset.sum_congr rfl fun e _ => ?_
    rw [cast_apply, hx, queries_block, chunk_apply, keys_block]
    refine congrArg₂ (fun i j => (a0 m c (ix3 _ _ i) : EReal) * _ * rows _ _ _ _ j) (Fin.ext ?_) (Fin.ext ?_) <;> dsimp only <;> omega

theorem final (c : Dev nD) (h0 : IsReal (s := S8x4096x1024) (a0 m c)) (h1 : IsReal (s := S8x4096x256) (a1 m c)) (h3 : IsReal (s := S8x256x256) (a3 m c)) :
    (dats m 0 c).arrAt 3 cfg0.N = result m c := by
  refine (dats m 0 c).arrAt_eq_of_covers 3 (result m c) (by decide +kernel) fun t hf y => ?_
  blk_simp
  rw [after0_3, out_eq]
  refine View.canon_apply_of_pieces (Val := Elt Ideal) (S := S1x512x256) (e := .bf16) (fun y => result m c (((cfg0.win 3).blk t).view.emb y)) _ (fun q hq x => ?_) y ?_
  · simp only [List.mem_cons, List.not_mem_nil, or_false] at hq
    rcases hq with rfl | rfl
    · idx_vars x
      obtain rfl : x0 = 0 := Subsingleton.elim _ _
      refine (pair_apply m c t 1 _ (fun r l => ?_) h0 h1 h3 x1 x2).trans ?_
      · refine congrArg (iblk m c 0 t) (funext fun a => Fin.ext ?_)
        match a with
        | ⟨0, _⟩ => rfl
        | ⟨1, _⟩ => show 0 + 1 * r.val = r.val; omega
        | ⟨2, _⟩ => show 128 + 1 * l.val = 1 * 128 + l.val; omega
      · blk_ext [index_o]
    · idx_vars x
      obtain rfl : x0 = 0 := Subsingleton.elim _ _
      refine (pair_apply m c t 0 _ (fun r l => ?_) h0 h1 h3 x1 x2).trans ?_
      · refine congrArg (iblk m c 0 t) (funext fun a => Fin.ext ?_)
        match a with
        | ⟨0, _⟩ => rfl
        | ⟨1, _⟩ => show 0 + 1 * r.val = r.val; omega
        | ⟨2, _⟩ => show 0 + 1 * l.val = 0 * 128 + l.val; omega
      · blk_ext [index_o]
  · exact cover0_3 _ _ y

end Cert.KernelIdeal.Attn

end
-- ==== Proof.ExpertLaunch.lean ====
/- The launch of the experts' call: what its arrays and tables hold when the pipeline is entered, the windows' blocks,
   and the body's memrefs at a grid point. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Tactic

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ)

/-- What a buffer of core `c` holds once the host lines before the call have run. -/
abbrev entry (c : Dev nD) (b : Ref sig .tc) : Buf (Elt F) ((c : Thread nD τ).loc b) :=
  StableHlo.after (List.flatten [hostOps0, hostOps0_1, hostOps0_2]) (fun b => m (c, b)) b

/-- The host lines allocate no counters. -/
theorem host_fresh : (hostOps0 : List (HloOp τ sig (Elt F))).Forall (fun op => op.fresh = ∅)
    ∧ (hostOps0_1 : List (HloOp τ sig (Elt F))).Forall (fun op => op.fresh = ∅)
    ∧ (hostOps0_2 : List (HloOp τ sig (Elt F))).Forall (fun op => op.fresh = ∅) := by
  simp only [List.Forall]
  refine ⟨?_, ?_, ?_⟩ <;> repeat' constructor

set_option maxHeartbeats 800000 in
/-- The program up to the call is its host lines. -/
theorem host_lines (𝒱₀ : Variants) : Pipeline.HMainP (Ix := Unit) (Name := ℕ) (U := UR sig nD τ) (Lvl := ℕ)
    pcfgs 0 defs₀ 𝒱₀ m (main (F := F)) (entry m) :=
  Pipeline.hmainP_prefixes pcfgs 0 defs₀ 𝒱₀ m main [hostOps0, hostOps0_1, hostOps0_2]
    (by simp only [List.Forall]; exact ⟨hostOps0_sub, hostOps0_1_sub, hostOps0_2_sub⟩)
    (by simp only [List.Forall]; exact host_fresh) main_chain

/-- The host lines leave the arguments alone. -/
theorem entry_arg (c : Dev nD) (b : Ref sig .tc)
    (hb : b ∈ [main_arg0, main_arg1, main_arg2, main_arg3, main_arg4, main_arg5]) :
    entry m c b = m ((c : Thread nD τ).loc b) := by
  refine StableHlo.after_of_forall_not_mem (b := Proc.devRef .tc b) _ _ (List.forall_iff_forall_mem.mp ?_)
  simp only [hostOps0, hostOps0_1, hostOps0_2, List.flatten_cons, List.flatten_nil, List.append_nil, List.cons_append,
    List.nil_append, List.Forall, StableHlo.nullary_writes, StableHlo.unary_writes, StableHlo.binary_writes,
    StableHlo.ternary_writes, StableHlo.reshape_writes, Finset.mem_singleton]
  repeat' apply And.intro
  all_goals
    refine StableHlo.devRef_ne_of_ne ?_
    revert b
    decide

/-! ## The tables -/

/-- The three tables as the call finds them. -/
def tables : pre0.Contents (Elt F) := fun j => entry m (0 : Dev nD) (pre0.ref j)

theorem entry_table (c : Dev nD) (j : Fin 3) : entry m c (pre0.ref j) = tables m j := by
  obtain rfl : c = 0 := Subsingleton.elim _ _
  rfl

/-- Every block the tables name lies inside its array. -/
abbrev Fits : Prop := ok0 (F := F) (tables m)

abbrev admitted (hO : Fits m) : (pcfg0 (F := F)).Adm := ⟨tables m, hO⟩
abbrev call (hO : Fits m) : Pipeline.Cfg sig Λ₀ := cfg0 (admitted m hO)

abbrev tabExpert : Memref sig .tc .smem S214 .i32 := Memref.whole main_v11
abbrev tabFirst : Memref sig .tc .smem S214 .i32 := Memref.whole main_v17
abbrev tabUsed : Memref sig .tc .smem S1 .i32 := Memref.whole main_v21

/-- What a table's buffer holds, and the half of it the body may read. -/
abbrev TabBuf (c : Dev nD) {S : Shape} {e : EltTy} (M : Memref sig .tc .smem S e) : Type := Buf (Elt F) (M.view.loc (c : Thread nD τ))
abbrev tabHalf (c : Dev nD) {S : Shape} {e : EltTy} (M : Memref sig .tc .smem S e) (f : TabBuf (F := F) c M) : sProp 𝕄 :=
  M.view.loc (c : Thread nD τ) ↦{fullShare.right} f

theorem tables_held (c : Dev nD) : (Pipeline.ΦT pre0 (tables m) c : sProp 𝕄)
    = iprop(tabHalf c tabExpert (tables m 0) ∗ tabHalf c tabFirst (tables m 1) ∗ tabHalf c tabUsed (tables m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows -/

/-- Window `w`'s block at point `t`. -/
def blockAt (hO : Fits m) (c : Dev nD) (w : Fin (call m hO).W) (t : Fin (call m hO).N) :
    (((call m hO).win w).xblock ((call m hO).grid.coords t)).Idx → Elt F ((call m hO).win w).elt :=
  (((call m hO).win w).blk t).view.read (Elt F) (entry m c (Pipeline.arrRef spec0 w))

/-- The result's window is written back at every point. -/
theorem flush_out (a : (pcfg0 (F := F)).Adm) : ∀ t : Fin (cfg0 a).N, ((cfg0 a).win 5).flush t = true :=
  (fun t => (Pipeline.Window.flushOf_reads cc0_transform_5 reads0_5 hreads0_5 0 (by decide) (by decide)
      (Pipeline.Window.sep_of_coord cc0_transform_5 0 0 (fun _ => rfl) (by decide)) (P := 1) (m := 0) (by decide) rfl t).mpr
      (Nat.mod_one _)
    : ∀ t : Fin grid0.N, Pipeline.Window.flushOf grid0 true cc0_transform_5 t = true)

abbrev stIn0 (hO : Fits m) (t : Fin (call m hO).N) : Memref sig .tc .vmem S6144x128 .f32 := spec0_0.stage ((call m hO).slots t 0)
abbrev stIn1 (hO : Fits m) (t : Fin (call m hO).N) : Memref sig .tc .vmem S1x1x1024x2048 .f32 := spec0_1.stage ((call m hO).slots t 1)
abbrev stIn2 (hO : Fits m) (t : Fin (call m hO).N) : Memref sig .tc .vmem S1x1x1x2048 .f32 := spec0_2.stage ((call m hO).slots t 2)
abbrev stIn3 (hO : Fits m) (t : Fin (call m hO).N) : Memref sig .tc .vmem S1x1x1024x1024 .f32 := spec0_3.stage ((call m hO).slots t 3)
abbrev stIn4 (hO : Fits m) (t : Fin (call m hO).N) : Memref sig .tc .vmem S1x1x1x1024 .f32 := spec0_4.stage ((call m hO).slots t 4)
abbrev stOut (hO : Fits m) (t : Fin (call m hO).N) : Memref sig .tc .vmem S6144x128 .f32 := spec0_5.stage ((call m hO).slots t 5)

/-- The two caches of the current expert's weights. -/
abbrev cacheUp : Memref sig .tc .vmem S1024x2048 .bf16 := Memref.whole cc0_scratch0
abbrev cacheDown : Memref sig .tc .vmem S1024x1024 .bf16 := Memref.whole cc0_scratch1

/-- The kernel's body at point `t`, as the pipeline calls it. -/
abbrev bodyAt (hO : Fits m) (t : Fin (call m hO).N) : Prog (TpuEff nD τ sig (Elt F) Λ₀ .tc) PUnit :=
  cc0_expert_ffn (grid0.coords t) tabExpert (Memref.isWhole_whole _) tabFirst (Memref.isWhole_whole _) tabUsed (Memref.isWhole_whole _)
    (stIn0 m hO t) (hstage0_0 (((call m hO).slots t 0).cast nbuf0_0)) (stIn1 m hO t) (hstage0_1 (((call m hO).slots t 1).cast nbuf0_1))
    (stIn2 m hO t) (hstage0_2 (((call m hO).slots t 2).cast nbuf0_2)) (stIn3 m hO t) (hstage0_3 (((call m hO).slots t 3).cast nbuf0_3))
    (stIn4 m hO t) (hstage0_4 (((call m hO).slots t 4).cast nbuf0_4)) (stOut m hO t) (hstage0_5 (((call m hO).slots t 5).cast nbuf0_5))
    cacheUp (Memref.isWhole_whole _) cacheDown (Memref.isWhole_whole _)

/-- The invariant the launch hands over: the caches at anything, and the generator's register. -/
theorem rest_held (c : Dev nD) : (Pipeline.ΦA spec0 c : sProp 𝕄)
    = iprop(iprop((∃ d, owns (c : Thread nD τ) cacheUp fullShare d) ∗ (∃ d, owns (c : Thread nD τ) cacheDown fullShare d))
        ∗ (∃ r, prngReg c r)) := by
  unfold Pipeline.ΦA; rw [scopedRest0_eq]; simp only [cacheUp, cacheDown, owns_whole]; try rfl

end Cert.Experts

end
-- ==== Proof.ExpertTables.lean ====
/- The three tables of the experts' call, from the ends of the experts' rows: which expert a block of rows is of, whether it
   is the expert's first block, and how many blocks hold rows. -/
module

public import proofs.«01_k».proof.Proof.ExpertLaunch
public import proofs.«01_k».proof.Proof.Gen.Reference2Ideal.Read
public import Idealize.ShloMosaic.Lib.IndicatorCount
public import Idealize.ShloMosaic.Lib.WordCmp
public import Idealize.ShloMosaic.Lib.Pointwise

@[expose] public section

set_option maxRecDepth 16384

noncomputable section

namespace Cert.Experts

open Idealize.ShloMosaic Idealize.ShloMosaic.TcCoe Idealize.ShloMosaic.Tactic Idealize.SL.Sem Idealize.ShloMosaic.StableHlo
open Cert.Kernel2Ideal Cert.Kernel2Ideal.Gen
open Cert.Reference2Ideal.Read (val_main_v7 val_main_v9 val_main_v11 val_main_v76 val_main_v77 val_main_call1_v2 val_main_call1_v3)

variable {F : FTy → Type} [FloatOps F]
variable (m : (ℓ : Loc nD τ sig) → Buf (Elt F) ℓ)

/-- The ends of the experts' rows. -/
abbrev ends : IVec S32 32 := m (((0 : Dev nD) : Thread nD τ).loc main_arg1)

/-- Whether a block's expert differs from the block's before it, for the blocks after the first. -/
def fresh (be : IVec S214 32) : IVec S213 32 :=
  extui 32 (cmpi .ne (extractStridedSlice S213 ![1] be slices_S214_S213_1) (extractStridedSlice S213 ![0] be slices_S214_S213_0)) natLt_1_32

set_option maxHeartbeats 4000000 in
theorem table_expert : tables m 0 = val_main_v11 (F := F) (ends m) := by
  unfold tables
  show entry m 0 main_v11 = _
  unfold entry
  simp only [hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

set_option maxHeartbeats 4000000 in
theorem table_first : tables m 1 = concatenate S214 0
    [⟨S1, (constantI S1 32 1#32 : IVec S1 32)⟩, ⟨S213, fresh (val_main_v11 (F := F) (ends m))⟩] concatenates_S1_S213_S214_d0 := by
  unfold tables
  show entry m 0 main_v17 = _
  unfold entry
  simp only [hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

set_option maxHeartbeats 4000000 in
theorem table_used : tables m 2 = shapeCast S1 (val_main_v77 (F := F) (ends m)) shapeCasts_S_S1 := by
  unfold tables
  show entry m 0 main_v21 = _
  unfold entry
  simp only [hostOps0, hostOps0_1, hostOps0_2, List.flatten_cons, List.flatten_nil, List.append_nil, List.cons_append, List.nil_append,
    TRef.binary, TRef.nullary, TRef.ternary, TRef.unary, TRef.toBuf, TRef.ofBuf, cast_eq]
  after_results_simp <;> rfl

set_option maxHeartbeats 4000000 in
/-- The rows, and the two biases, as the call finds them. -/
theorem arrays_read (c : Dev nD) :
    entry m c main_v22 = (shapeCast S1314816x128 (m ((c : Thread nD τ).loc main_arg0) : FVec F S164352x1024 .f32) shapeCasts_S164352x1024_S1314816x128 : FVec F S1314816x128 .f32)
    ∧ entry m c main_v23 = (shapeCast S4x32x1x2048 (m ((c : Thread nD τ).loc main_arg3) : FVec F S4x32x2048 .f32) shapeCasts_S4x32x2048_S4x32x1x2048 : FVec F S4x32x1x2048 .f32)
    ∧ entry m c main_v24 = (shapeCast S4x32x1x1024 (m ((c : Thread nD τ).loc main_arg5) : FVec F S4x32x1024 .f32) shapeCasts_S4x32x1024_S4x32x1x1024 : FVec F S4x32x1x1024 .f32) := by
  unfold entry
  simp only [hostOps0, hostOps0_1, hostOps0_2, List.flatten_cons, List.flatten_nil, List.append_nil, List.cons_append, List.nil_append,
    TRef.binary, TRef.nullary, TRef.ternary, TRef.unary, TRef.toBuf, TRef.ofBuf, cast_eq]
  refine ⟨?_, ?_, ?_⟩ <;> (after_results_simp <;> rfl)

/-! ## The words -/

theorem least_31 (n : ℕ) (hn : n < 2 ^ 31) : ∃ e : Fin 32, IntOp.minsi (BitVec.ofNat 32 n) 31#32 = BitVec.ofNat 32 e.val := by
  unfold IntOp.minsi
  by_cases h : n < 31
  · refine ⟨⟨n, by omega⟩, if_pos ?_⟩
    rw [BitVec.slt, WordCmp.toInt_ofNat_of_lt hn]
    simpa using h
  · refine ⟨⟨31, by omega⟩, if_neg ?_⟩
    rw [BitVec.slt, WordCmp.toInt_ofNat_of_lt hn]
    simpa using h

/-- A block's expert is one of the 32. -/
theorem expert_word (x : IVec S32 32) (i : S214.Idx) : ∃ e : Fin 32, val_main_v11 (F := F) x i = BitVec.ofNat 32 e.val := by
  have hc : ∃ n : ℕ, n < 2 ^ 31 ∧ val_main_v9 (F := F) x i = BitVec.ofNat 32 n := by
    refine ⟨_, ?_, (Host.reduce_eq_fold _ _ _ _ _ _).trans (IndicatorCount.fold_addi_setWidth_eq_card (val_main_v7 (F := F) x) _)⟩
    refine (Finset.card_le_univ _).trans_lt ?_
    rw [Shape.card_idx]
    decide
  obtain ⟨n, hn, e⟩ := hc
  rw [Cert.Reference2Ideal.Read.val_main_v11_apply, e]
  exact least_31 n hn

theorem rowMajor_single {s : Shape} (h : s.numel = 1) (i : s.Idx) : (s.rowMajor i).val = 0 := by
  have := (s.rowMajor i).isLt
  omega

/-- The number of blocks that hold rows. -/
theorem used_word (x : IVec S32 32) (hx : 768 ≤ (x (ix1 (31 : Fin 32))).toInt) (i : Cert.Reference2Ideal.S_.Idx) :
    val_main_v77 (F := F) x i = BitVec.ofNat 32 ((x (ix1 (31 : Fin 32))).toNat / 768) := by
  have h76 : ∀ j, val_main_v76 (F := F) x j = x (ix1 (31 : Fin 32)) := by
    intro j
    unfold val_main_v76
    refine (shapeCast_apply _ _ j (ix1 (0 : Fin 1)) ?_).trans ?_
    · exact (rowMajor_single (by decide) _).trans (rowMajor_single (s := Cert.Reference2Ideal.S_) (by decide) j).symm
    · rw [Cert.Reference2Ideal.Read.val_main_v75_apply]
      congr 1
      funext a
      match a with
      | ⟨0, _⟩ => rfl
  generalize x (ix1 (31 : Fin 32)) = X at hx h76
  have hX : X.toNat < 2 ^ 31 := (WordCmp.toInt_nonneg_iff_lt_half X).mp (by omega)
  have hX' : 768 ≤ X.toNat := by rw [WordCmp.toInt_eq_toNat_of_lt_half hX] at hx; omega
  have hm : X.msb = false := BitVec.msb_eq_false_iff_two_mul_lt.mpr (by omega)
  have hd : IntOp.divsi .host X 768#32 = BitVec.ofNat 32 (X.toNat / 768) := by
    unfold IntOp.divsi
    rw [if_neg (by unfold IntOp.SDivCorner; simp), BitVec.sdiv_eq, hm]
    show X / 768#32 = _
    apply BitVec.eq_of_toNat_eq
    rw [BitVec.toNat_udiv, BitVec.toNat_ofNat, BitVec.toNat_ofNat, Nat.mod_eq_of_lt (by omega : 768 < 2 ^ 32)]
    omega
  have hs : val_main_call1_v2 (F := F) x i = 1#32 := by
    unfold val_main_call1_v2 signi
    rw [h76, if_neg (fun e => by rw [e] at hX'; simp at hX'), hm]
    rfl
  rw [Cert.Reference2Ideal.Read.val_main_v77_apply, Cert.Reference2Ideal.Read.val_main_call1_v7_apply,
    Cert.Reference2Ideal.Read.val_main_call1_v4_apply, hs, Cert.Reference2Ideal.Read.val_main_call1_v1_apply, h76]
  have h0 : ∀ b : BitVec 1, IntOp.andi (IntOp.cmpi .ne 1#32 (val_main_call1_v3 (F := F) i)) b = 0#1 := by
    intro b
    have : val_main_call1_v3 (F := F) i = 1#32 := by
      unfold val_main_call1_v3 signi
      rw [Cert.Reference2Ideal.Read.val_main_call1_v0_apply, Cert.Reference2Ideal.Read.val_main_c_16_apply, if_neg (by decide), if_neg (by decide)]
      rfl
    rw [this]
    revert b; decide
  rw [h0]
  exact hd

/-! ## The tables at a block -/

/-- The expert of block `t`. -/
def expertOf (x : IVec S32 32) (t : Fin 214) : Fin 32 := (expert_word (F := F) x (ix1 t)).choose

theorem expertOf_spec (x : IVec S32 32) (t : Fin 214) : val_main_v11 (F := F) x (ix1 t) = BitVec.ofNat 32 (expertOf (F := F) x t).val :=
  (expert_word (F := F) x (ix1 t)).choose_spec

/-- How many blocks hold rows. -/
def usedOf (x : IVec S32 32) : ℕ := (x (ix1 (31 : Fin 32))).toNat / 768

theorem table_expert_at (i : S214.Idx) : (tables m 0 : IVec S214 32) i = BitVec.ofNat 32 (expertOf (F := F) (ends m) (i 0)).val := by
  rw [table_expert]
  refine Eq.trans ?_ (expertOf_spec (F := F) (ends m) (i 0))
  refine congrArg (val_main_v11 (F := F) (ends m)) (funext fun a => ?_)
  match a with
  | ⟨0, _⟩ => rfl

theorem table_used_at (hx : 768 ≤ (ends m (ix1 (31 : Fin 32))).toInt) (i : S1.Idx) :
    (tables m 2 : IVec S1 32) i = BitVec.ofNat 32 (usedOf (ends m)) := by
  rw [table_used]
  unfold shapeCast
  exact used_word _ hx _

theorem used_pos (x : IVec S32 32) (hx : 768 ≤ (x (ix1 (31 : Fin 32))).toInt) : 1 ≤ usedOf x ∧ usedOf x < 2 ^ 31 := by
  unfold usedOf
  generalize x (ix1 (31 : Fin 32)) = X at hx
  have hX : X.toNat < 2 ^ 31 := (WordCmp.toInt_nonneg_iff_lt_half X).mp (by omega)
  have hX' : 768 ≤ X.toNat := by rw [WordCmp.toInt_eq_toNat_of_lt_half hX] at hx; omega
  omega

/-- A block marked as not its expert's first has the expert of the block before it. -/
theorem table_first_at (t : Fin 214) (h : (tables m 1 : IVec S214 32) (ix1 t) ≠ 1#32) :
    ∃ h0 : t.val ≠ 0, expertOf (F := F) (ends m) ⟨t.val - 1, by omega⟩ = expertOf (F := F) (ends m) t := by
  rw [table_first] at h
  have h0 : t.val ≠ 0 := by
    intro e
    apply h
    obtain rfl : t = 0 := Fin.ext e
    pointwise
  refine ⟨h0, ?_⟩
  have e : (concatenate S214 0 [⟨S1, (constantI S1 32 1#32 : IVec S1 32)⟩, ⟨S213, fresh (val_main_v11 (F := F) (ends m))⟩] concatenates_S1_S213_S214_d0) (ix1 t)
      = (IntOp.cmpi .ne (val_main_v11 (F := F) (ends m) (ix1 t)) (val_main_v11 (F := F) (ends m) (ix1 ⟨t.val - 1, by omega⟩))).setWidth 32 := by
    unfold fresh
    refine (concatenate_pair_apply_right (t := S214) (s₁ := S1) (s₂ := S213) (0 : Fin S214.rank) _ _ concatenates_S1_S213_S214_d0 (ix1 t) rfl rfl (ix1 (⟨t.val - 1, by omega⟩ : Fin 213)) ?_ ?_).trans ?_
    · intro b hb
      exact absurd (Subsingleton.elim (α := Fin 1) _ _) hb
    · show t.val - 1 + 1 = t.val
      omega
    · refine congrArg (BitVec.setWidth 32) (congrArg₂ (IntOp.cmpi .ne) ?_ ?_)
      · refine congrArg (val_main_v11 (F := F) (ends m)) (funext fun a => Fin.ext ?_)
        match a with
        | ⟨0, _⟩ => show 1 + (t.val - 1) = t.val; omega
      · refine congrArg (val_main_v11 (F := F) (ends m)) (funext fun a => Fin.ext ?_)
        match a with
        | ⟨0, _⟩ => show 0 + (t.val - 1) = t.val - 1; omega
  rw [e, expertOf_spec, expertOf_spec] at h
  by_contra hne
  apply h
  have : IntOp.cmpi .ne (BitVec.ofNat 32 (expertOf (F := F) (ends m) t).val) (BitVec.ofNat 32 (expertOf (F := F) (ends m) ⟨t.val - 1, by omega⟩).val) = 1#1 := by
    rw [WordCmp.cmpi_ne_ofNat_eq_one_iff (by omega) (by omega)]
    exact fun e' => hne (Fin.ext e'.symm)
  rw [this]
  rfl

end Cert.Experts

end
-- ==== Proof.ExpertStores.lean ====
/- What the experts' body computes from what it loads, and what its strided stores leave. -/
module

public import proofs.«01_k».proof.Proof.ExpertLaunch
public import Idealize.ShloMosaic.Lib.WholeRead
public import Idealize.ShloMosaic.Lib.WordCmp
public import Idealize.ShloMosaic.Lib.Pointwise.Index

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (UR sig nD τ) ℕ

/-! ## What one block computes -/

/-- Lane chunk `s` of every row of a block of rows laid out as eight chunks each. -/
def chunk (x0 : Vec F S6144x128 .f32) (s : Fin 8) : Vec F S768x128 .f32 := fun j =>
  x0 (ix2 ⟨s.val + 8 * (j 0).val, by have h : (j 0).val < 768 := (j 0).isLt; have := s.isLt; omega⟩ (j 1 : Fin 128))

/-- A window of 512 columns of the cached up weights. -/
def upCols (wu : Vec F S1024x2048 .bf16) (o : ℕ) (ho : o + 512 ≤ 2048) : Vec F S1024x512 .bf16 := fun j =>
  wu (ix2 (j 0 : Fin 1024) ⟨o + (j 1).val, by have h : (j 1).val < 512 := (j 1).isLt; omega⟩)

/-- A window of 512 entries of the up bias. -/
def biasCols (b : Vec F S1x1x1x2048 .f32) (o : ℕ) (ho : o + 512 ≤ 2048) : Vec F S1x1x1x512 .f32 := fun j =>
  b (ix4 (0 : Fin 1) (0 : Fin 1) (0 : Fin 1) ⟨o + (j 3).val, by have h : (j 3).val < 512 := (j 3).isLt; omega⟩)

/-- A window of 512 rows of the cached down weights. -/
def downRows (wd : Vec F S1024x1024 .bf16) (o : ℕ) (ho : o + 512 ≤ 1024) : Vec F S512x1024 .bf16 := fun j =>
  wd (ix2 ⟨o + (j 0).val, by have h : (j 0).val < 512 := (j 0).isLt; omega⟩ (j 1 : Fin 1024))

/-- The block's result as rows of 1024, from the cached weights, the rows and the biases. -/
def blockRows (wu : Vec F S1024x2048 .bf16) (wd : Vec F S1024x1024 .bf16) (x0 : Vec F S6144x128 .f32)
    (b : Vec F S1x1x1x2048 .f32) (bd : Vec F S1x1x1x1024 .f32) : FVec F S768x1024 .f32 :=
  k0_pay13
    (k0_pay10 k0_pay6
      (k0_pay7 (chunk x0 0) (chunk x0 1) (chunk x0 2) (chunk x0 3) (chunk x0 4) (chunk x0 5) (chunk x0 6) (chunk x0 7)
        (upCols wu 0 (by omega)) (biasCols b 0 (by omega)))
      (k0_pay8 (chunk x0 0) (chunk x0 1) (chunk x0 2) (chunk x0 3) (chunk x0 4) (chunk x0 5) (chunk x0 6) (chunk x0 7)
        (upCols wu 1024 (by omega)))
      (k0_pay9 (biasCols b 1024 (by omega))) (downRows wd 0 (by omega)))
    (k0_pay11 (k0_pay5 (chunk x0 0) (chunk x0 1) (chunk x0 2) (chunk x0 3) (chunk x0 4) (chunk x0 5) (chunk x0 6) (chunk x0 7))
      (upCols wu 512 (by omega)) (biasCols b 512 (by omega)))
    (Scalar.ofBits .f32 0x40E00000#32)
    (k0_pay12 (k0_pay5 (chunk x0 0) (chunk x0 1) (chunk x0 2) (chunk x0 3) (chunk x0 4) (chunk x0 5) (chunk x0 6) (chunk x0 7))
      (upCols wu 1536 (by omega)) (biasCols b 1536 (by omega)))
    (downRows wd 512 (by omega)) bd

/-- Rows of 1024 laid out as eight chunks each. -/
def tiled (y : FVec F S768x1024 .f32) : Vec F S6144x128 .f32 := fun j =>
  y (ix2 ⟨(j 0).val / 8, by have h : (j 0).val < 6144 := (j 0).isLt; omega⟩
    ⟨(j 0).val % 8 * 128 + (j 1).val, by have h : (j 1).val < 128 := (j 1).isLt; omega⟩)

/-! ## Reading what was stored -/

/-- A store over a whole buffer is what a load finds. -/
theorem load_stored {S : Shape} {e : EltTy} (v : View sig .tc .vmem S e) (f : v.ty.Contents (Elt F)) (off : Fin S.rank → ℕ)
    (h0 : ∀ a, off a = 0) (inb : ∀ a, off a + S.size a ≤ S.size a) (w : S.Idx → Elt F e) :
    v.read (Elt F) (v.writes (Elt F) f [⟨Rect.unit off S.size inb, w⟩]) = w := by
  obtain rfl : off = fun _ => 0 := funext h0
  exact View.read_writes_whole v f w

/-- A load of a whole buffer is its contents. -/
theorem load_whole {S : Shape} {e : EltTy} (a : Memref sig .tc .vmem S e) (h : a.IsWhole) (w : S.Idx → Elt F e) (off : Fin S.rank → ℕ)
    (h0 : ∀ a, off a = 0) (inb : ∀ a, off a + S.size a ≤ S.size a) :
    View.readAt (Elt F) a.view (Rect.unit (s := S) off S.size inb).toLoadRect (h.unread w) = w := by
  obtain rfl : off = fun _ => 0 := funext h0
  funext x
  refine (h.readAt_unread _ _ _).trans (congrArg w (funext fun a => Fin.ext ?_))
  show 0 + 1 * (x a).val = (x a).val
  omega

/-- A strided store of chunk `s` of a block's rows agrees with the rows laid out in chunks. -/
theorem stored_chunk (y : FVec F S768x1024 .f32) (s : ℕ) (hs : s < 8)
    (p : Rect S6144x128) (h0 : p.off = ![s, 0]) (h1 : p.stride = ![8, 1]) (sl : S768x1024.Slices ![0, 128 * s] S768x128) (x : S768x128.Idx) (x' : p.shape.Idx)
    (hx : ∀ a, (x a).val = (x' a).val) : extractStridedSlice S768x128 ![0, 128 * s] y sl x
      = tiled y (p.emb x') := by
  have l0 : (x 0).val < 768 := (x 0).isLt
  have l1 : (x 1).val < 128 := (x 1).isLt
  refine congrArg y (funext fun a => Fin.ext ?_)
  match a with
  | 0 =>
    show 0 + (x 0).val = (p.off 0 + p.stride 0 * (x' 0).val) / 8
    rw [h0, h1, ← hx 0]
    show 0 + (x 0).val = (s + 8 * (x 0).val) / 8
    omega
  | 1 =>
    show 128 * s + (x 1).val = (p.off 0 + p.stride 0 * (x' 0).val) % 8 * 128 + (p.off 1 + p.stride 1 * (x' 1).val)
    rw [h0, h1, ← hx 0, ← hx 1]
    show 128 * s + (x 1).val = (s + 8 * (x 0).val) % 8 * 128 + (0 + 1 * (x 1).val)
    omega

/-- An element of the rows' buffer lies in the chunk of its row modulo 8. -/
theorem mem_chunk (j : S6144x128.Idx) (p : Rect S6144x128) (s : ℕ) (h0 : p.off = ![s, 0]) (h1 : p.size = ![768, 128])
    (h2 : p.stride = ![8, 1]) (hs : (j 0).val % 8 = s) : j ∈ p.set := by
  have l0 : (j 0).val < 6144 := (j 0).isLt
  have l1 : (j 1).val < 128 := (j 1).isLt
  refine p.mem_set.mpr (Fin.forall_fin_two.mpr ⟨⟨(j 0).val / 8, ?_, ?_⟩, ⟨(j 1).val, ?_, ?_⟩⟩)
  · rw [h1]; show (j 0).val / 8 < 768; omega
  · rw [h0, h2]; show (j 0).val = s + 8 * ((j 0).val / 8); omega
  · rw [h1]; exact l1
  · rw [h0, h2]; show (j 1).val = 0 + 1 * (j 1).val; omega

/-- The eight strided stores of a block's rows leave the rows laid out in chunks. -/
theorem stored_tiles (v : View sig .tc .vmem S6144x128 .f32) (f : v.ty.Contents (Elt F))
    (A : FVec F S768x1024 .f32) (B : FVec F S768x512 .f32) (C : F .f32) (D : FVec F S768x512 .f32) (E : Vec F S512x1024 .bf16)
    (G : Vec F S1x1x1x1024 .f32) (y : FVec F S768x1024 .f32) (hy : k0_pay13 A B C D E G = y) :
    v.read (Elt F) (v.writes (Elt F) f
      [⟨⟨(⟨![7, 0], S768x128.size, ![8, 1], inb_S6144x128_S768x128_7_0_s_8_1⟩ : LoadRect S6144x128), spos_8_1⟩, k0_pay3 (k0_pay13 A B C D E G)⟩,
       ⟨⟨(⟨![6, 0], S768x128.size, ![8, 1], inb_S6144x128_S768x128_6_0_s_8_1⟩ : LoadRect S6144x128), spos_8_1⟩, k0_pay20 A B C D E G⟩,
       ⟨⟨(⟨![5, 0], S768x128.size, ![8, 1], inb_S6144x128_S768x128_5_0_s_8_1⟩ : LoadRect S6144x128), spos_8_1⟩, k0_pay19 A B C D E G⟩,
       ⟨⟨(⟨![4, 0], S768x128.size, ![8, 1], inb_S6144x128_S768x128_4_0_s_8_1⟩ : LoadRect S6144x128), spos_8_1⟩, k0_pay18 A B C D E G⟩,
       ⟨⟨(⟨![3, 0], S768x128.size, ![8, 1], inb_S6144x128_S768x128_3_0_s_8_1⟩ : LoadRect S6144x128), spos_8_1⟩, k0_pay17 A B C D E G⟩,
       ⟨⟨(⟨![2, 0], S768x128.size, ![8, 1], inb_S6144x128_S768x128_2_0_s_8_1⟩ : LoadRect S6144x128), spos_8_1⟩, k0_pay16 A B C D E G⟩,
       ⟨⟨(⟨![1, 0], S768x128.size, ![8, 1], inb_S6144x128_S768x128_1_0_s_8_1⟩ : LoadRect S6144x128), spos_8_1⟩, k0_pay15 A B C D E G⟩,
       ⟨⟨(⟨![0, 0], S768x128.size, ![8, 1], inb_S6144x128_S768x128_0_0_s_8_1⟩ : LoadRect S6144x128), spos_8_1⟩, k0_pay14 A B C D E G⟩]) = tiled y := by
  subst hy
  funext j
  have l0 : (j 0).val < 6144 := (j 0).isLt
  have l1 : (j 1).val < 128 := (j 1).isLt
  refine View.read_writes_apply_of_pieces v f (tiled (k0_pay13 A B C D E G)) _ ?_ j ?_
  · intro p hp x
    simp only [List.mem_cons, List.not_mem_nil, _root_.or_false] at hp
    rcases hp with rfl | rfl | rfl | rfl | rfl | rfl | rfl | rfl
    · exact stored_chunk (k0_pay13 A B C D E G) 7 (by decide) _ rfl rfl slices_S768x1024_o0_896_S768x128 x x fun _ => rfl
    · exact stored_chunk (k0_pay13 A B C D E G) 6 (by decide) _ rfl rfl slices_S768x1024_o0_768_S768x128 x x fun _ => rfl
    · exact stored_chunk (k0_pay13 A B C D E G) 5 (by decide) _ rfl rfl slices_S768x1024_o0_640_S768x128 x x fun _ => rfl
    · exact stored_chunk (k0_pay13 A B C D E G) 4 (by decide) _ rfl rfl slices_S768x1024_o0_512_S768x128 x x fun _ => rfl
    · exact stored_chunk (k0_pay13 A B C D E G) 3 (by decide) _ rfl rfl slices_S768x1024_o0_384_S768x128 x x fun _ => rfl
    · exact stored_chunk (k0_pay13 A B C D E G) 2 (by decide) _ rfl rfl slices_S768x1024_o0_256_S768x128 x x fun _ => rfl
    · exact stored_chunk (k0_pay13 A B C D E G) 1 (by decide) _ rfl rfl slices_S768x1024_o0_128_S768x128 x x fun _ => rfl
    · exact stored_chunk (k0_pay13 A B C D E G) 0 (by decide) _ rfl rfl slices_S768x1024_o0_0_S768x128 x x fun _ => rfl
  · have hm : (j 0).val % 8 < 8 := Nat.mod_lt _ (by decide)
    generalize hr : (j 0).val % 8 = r at hm
    obtain rfl | rfl | rfl | rfl | rfl | rfl | rfl | rfl : r = 7 ∨ r = 6 ∨ r = 5 ∨ r = 4 ∨ r = 3 ∨ r = 2 ∨ r = 1 ∨ r = 0 := by omega
    · exact ⟨_, .head _, mem_chunk j _ 7 rfl rfl rfl hr⟩
    · exact ⟨_, .tail _ (.head _), mem_chunk j _ 6 rfl rfl rfl hr⟩
    · exact ⟨_, .tail _ (.tail _ (.head _)), mem_chunk j _ 5 rfl rfl rfl hr⟩
    · exact ⟨_, .tail _ (.tail _ (.tail _ (.head _))), mem_chunk j _ 4 rfl rfl rfl hr⟩
    · exact ⟨_, .tail _ (.tail _ (.tail _ (.tail _ (.head _)))), mem_chunk j _ 3 rfl rfl rfl hr⟩
    · exact ⟨_, .tail _ (.tail _ (.tail _ (.tail _ (.tail _ (.head _))))), mem_chunk j _ 2 rfl rfl rfl hr⟩
    · exact ⟨_, .tail _ (.tail _ (.tail _ (.tail _ (.tail _ (.tail _ (.head _)))))), mem_chunk j _ 1 rfl rfl rfl hr⟩
    · exact ⟨_, .tail _ (.tail _ (.tail _ (.tail _ (.tail _ (.tail _ (.tail _ (.head _))))))), mem_chunk j _ 0 rfl rfl rfl hr⟩

/-- A strided load of the rows' buffer is a chunk. -/
theorem load_chunk (a4 : Memref sig .tc .vmem S6144x128 .f32) (h4 : a4.IsWhole) (x0 : Vec F S6144x128 .f32) (s : Fin 8)
    (inb : ∀ a, S768x128.size a = 0 ∨ (![s.val, 0] : Fin 2 → ℕ) a + (![8, 1] : Fin 2 → ℕ) a * (S768x128.size a - 1) < S6144x128.size a) :
    View.readAt (Elt F) a4.view (⟨![s.val, 0], S768x128.size, ![8, 1], inb⟩ : LoadRect S6144x128) (h4.unread x0) = chunk x0 s := by
  funext x
  refine (h4.readAt_unread _ _ _).trans (congrArg x0 (funext fun a => Fin.ext ?_))
  match a with
  | 0 => rfl
  | 1 => show 0 + 1 * (x 1).val = (x 1).val; omega

theorem load_up (a10 : Memref sig .tc .vmem S1024x2048 .bf16) (W : a10.view.ty.Contents (Elt F)) (wu : Vec F S1024x2048 .bf16)
    (hW : a10.view.read (Elt F) W = wu) (o : ℕ) (ho : o + 512 ≤ 2048)
    (inb : ∀ a, (![0, o] : Fin 2 → ℕ) a + S1024x512.size a ≤ S1024x2048.size a) :
    View.readAt (Elt F) a10.view (Rect.unit (s := S1024x2048) ![0, o] S1024x512.size inb).toLoadRect W = upCols wu o ho := by
  subst hW
  funext x
  refine congrArg (a10.view.read (Elt F) W) (funext fun a => Fin.ext ?_)
  match a with
  | 0 => show 0 + 1 * (x 0).val = (x 0).val; omega
  | 1 => show o + 1 * (x 1).val = o + (x 1).val; omega

theorem load_down (a11 : Memref sig .tc .vmem S1024x1024 .bf16) (W : a11.view.ty.Contents (Elt F)) (wd : Vec F S1024x1024 .bf16)
    (hW : a11.view.read (Elt F) W = wd) (o : ℕ) (ho : o + 512 ≤ 1024)
    (inb : ∀ a, (![o, 0] : Fin 2 → ℕ) a + S512x1024.size a ≤ S1024x1024.size a) :
    View.readAt (Elt F) a11.view (Rect.unit (s := S1024x1024) ![o, 0] S512x1024.size inb).toLoadRect W = downRows wd o ho := by
  subst hW
  funext x
  refine congrArg (a11.view.read (Elt F) W) (funext fun a => Fin.ext ?_)
  match a with
  | 0 => show o + 1 * (x 0).val = o + (x 0).val; omega
  | 1 => show 0 + 1 * (x 1).val = (x 1).val; omega

theorem load_bias (a6 : Memref sig .tc .vmem S1x1x1x2048 .f32) (h6 : a6.IsWhole) (b : Vec F S1x1x1x2048 .f32)
    (o : ℕ) (ho : o + 512 ≤ 2048) (inb : ∀ a, (![0, 0, 0, o] : Fin 4 → ℕ) a + S1x1x1x512.size a ≤ S1x1x1x2048.size a) :
    View.readAt (Elt F) a6.view (Rect.unit (s := S1x1x1x2048) ![0, 0, 0, o] S1x1x1x512.size inb).toLoadRect (h6.unread b) = biasCols b o ho := by
  funext x
  refine (h6.readAt_unread _ _ _).trans (congrArg b (funext fun a => Fin.ext ?_))
  match a with
  | 0 | 1 | 2 => exact congrArg Fin.val (Subsingleton.elim (α := Fin 1) _ _)
  | 3 => show o + 1 * (x 3).val = o + (x 3).val; omega

/-- The rows computed from what the loads read are the rows of the block. -/
theorem rows_loaded (a4 : Memref sig .tc .vmem S6144x128 .f32) (h4 : a4.IsWhole) (a6 : Memref sig .tc .vmem S1x1x1x2048 .f32) (h6 : a6.IsWhole)
    (a8 : Memref sig .tc .vmem S1x1x1x1024 .f32) (h8 : a8.IsWhole) (a10 : Memref sig .tc .vmem S1024x2048 .bf16) (a11 : Memref sig .tc .vmem S1024x1024 .bf16)
    (W : a10.view.ty.Contents (Elt F)) (W' : a11.view.ty.Contents (Elt F)) (wu : Vec F S1024x2048 .bf16) (wd : Vec F S1024x1024 .bf16)
    (hW : a10.view.read (Elt F) W = wu) (hW' : a11.view.read (Elt F) W' = wd)
    (x0 : Vec F S6144x128 .f32) (b : Vec F S1x1x1x2048 .f32) (bd : Vec F S1x1x1x1024 .f32) :
    k0_pay13
      (k0_pay10 k0_pay6
        (k0_pay7
        (View.readAt (Elt F) a4.view (⟨![0, 0], S768x128.size, ![8, 1], inb_S6144x128_S768x128_0_0_s_8_1⟩ : LoadRect S6144x128) (h4.unread x0))
        (View.readAt (Elt F) a4.view (⟨![1, 0], S768x128.size, ![8, 1], inb_S6144x128_S768x128_1_0_s_8_1⟩ : LoadRect S6144x128) (h4.unread x0))
        (View.readAt (Elt F) a4.view (⟨![2, 0], S768x128.size, ![8, 1], inb_S6144x128_S768x128_2_0_s_8_1⟩ : LoadRect S6144x128) (h4.unread x0))
        (View.readAt (Elt F) a4.view (⟨![3, 0], S768x128.size, ![8, 1], inb_S6144x128_S768x128_3_0_s_8_1⟩ : LoadRect S6144x128) (h4.unread x0))
        (View.readAt (Elt F) a4.view (⟨![4, 0], S768x128.size, ![8, 1], inb_S6144x128_S768x128_4_0_s_8_1⟩ : LoadRect S6144x128) (h4.unread x0))
        (View.readAt (Elt F) a4.view (⟨![5, 0], S768x128.size, ![8, 1], inb_S6144x128_S768x128_5_0_s_8_1⟩ : LoadRect S6144x128) (h4.unread x0))
        (View.readAt (Elt F) a4.view (⟨![6, 0], S768x128.size, ![8, 1], inb_S6144x128_S768x128_6_0_s_8_1⟩ : LoadRect S6144x128) (h4.unread x0))
        (View.readAt (Elt F) a4.view (⟨![7, 0], S768x128.size, ![8, 1], inb_S6144x128_S768x128_7_0_s_8_1⟩ : LoadRect S6144x128) (h4.unread x0))
         (View.readAt (Elt F) a10.view (Rect.unit (s := S1024x2048) ![0, 0] S1024x512.size inb_S1024x2048_S1024x512_0_0).toLoadRect W) (View.readAt (Elt F) a6.view (Rect.unit (s := S1x1x1x2048) ![0, 0, 0, 0] S1x1x1x512.size inb_S1x1x1x2048_S1x1x1x512_0_0_0_0).toLoadRect (h6.unread b)))
        (k0_pay8
        (View.readAt (Elt F) a4.view (⟨![0, 0], S768x128.size, ![8, 1], inb_S6144x128_S768x128_0_0_s_8_1⟩ : LoadRect S6144x128) (h4.unread x0))
        (View.readAt (Elt F) a4.view (⟨![1, 0], S768x128.size, ![8, 1], inb_S6144x128_S768x128_1_0_s_8_1⟩ : LoadRect S6144x128) (h4.unread x0))
        (View.readAt (Elt F) a4.view (⟨![2, 0], S768x128.size, ![8, 1], inb_S6144x128_S768x128_2_0_s_8_1⟩ : LoadRect S6144x128) (h4.unread x0))
        (View.readAt (Elt F) a4.view (⟨![3, 0], S768x128.size, ![8, 1], inb_S6144x128_S768x128_3_0_s_8_1⟩ : LoadRect S6144x128) (h4.unread x0))
        (View.readAt (Elt F) a4.view (⟨![4, 0], S768x128.size, ![8, 1], inb_S6144x128_S768x128_4_0_s_8_1⟩ : LoadRect S6144x128) (h4.unread x0))
        (View.readAt (Elt F) a4.view (⟨![5, 0], S768x128.size, ![8, 1], inb_S6144x128_S768x128_5_0_s_8_1⟩ : LoadRect S6144x128) (h4.unread x0))
        (View.readAt (Elt F) a4.view (⟨![6, 0], S768x128.size, ![8, 1], inb_S6144x128_S768x128_6_0_s_8_1⟩ : LoadRect S6144x128) (h4.unread x0))
        (View.readAt (Elt F) a4.view (⟨![7, 0], S768x128.size, ![8, 1], inb_S6144x128_S768x128_7_0_s_8_1⟩ : LoadRect S6144x128) (h4.unread x0))
         (View.readAt (Elt F) a10.view (Rect.unit (s := S1024x2048) ![0, 1024] S1024x512.size inb_S1024x2048_S1024x512_0_1024).toLoadRect W))
        (k0_pay9 (View.readAt (Elt F) a6.view (Rect.unit (s := S1x1x1x2048) ![0, 0, 0, 1024] S1x1x1x512.size inb_S1x1x1x2048_S1x1x1x512_0_0_0_1024).toLoadRect (h6.unread b))) (View.readAt (Elt F) a11.view (Rect.unit (s := S1024x1024) ![0, 0] S512x1024.size inb_S1024x1024_S512x1024_0_0).toLoadRect W'))
      (k0_pay11 (k0_pay5
        (View.readAt (Elt F) a4.view (⟨![0, 0], S768x128.size, ![8, 1], inb_S6144x128_S768x128_0_0_s_8_1⟩ : LoadRect S6144x128) (h4.unread x0))
        (View.readAt (Elt F) a4.view (⟨![1, 0], S768x128.size, ![8, 1], inb_S6144x128_S768x128_1_0_s_8_1⟩ : LoadRect S6144x128) (h4.unread x0))
        (View.readAt (Elt F) a4.view (⟨![2, 0], S768x128.size, ![8, 1], inb_S6144x128_S768x128_2_0_s_8_1⟩ : LoadRect S6144x128) (h4.unread x0))
        (View.readAt (Elt F) a4.view (⟨![3, 0], S768x128.size, ![8, 1], inb_S6144x128_S768x128_3_0_s_8_1⟩ : LoadRect S6144x128) (h4.unread x0))
        (View.readAt (Elt F) a4.view (⟨![4, 0], S768x128.size, ![8, 1], inb_S6144x128_S768x128_4_0_s_8_1⟩ : LoadRect S6144x128) (h4.unread x0))
        (View.readAt (Elt F) a4.view (⟨![5, 0], S768x128.size, ![8, 1], inb_S6144x128_S768x128_5_0_s_8_1⟩ : LoadRect S6144x128) (h4.unread x0))
        (View.readAt (Elt F) a4.view (⟨![6, 0], S768x128.size, ![8, 1], inb_S6144x128_S768x128_6_0_s_8_1⟩ : LoadRect S6144x128) (h4.unread x0))
        (View.readAt (Elt F) a4.view (⟨![7, 0], S768x128.size, ![8, 1], inb_S6144x128_S768x128_7_0_s_8_1⟩ : LoadRect S6144x128) (h4.unread x0))
        ) (View.readAt (Elt F) a10.view (Rect.unit (s := S1024x2048) ![0, 512] S1024x512.size inb_S1024x2048_S1024x512_0_512).toLoadRect W) (View.readAt (Elt F) a6.view (Rect.unit (s := S1x1x1x2048) ![0, 0, 0, 512] S1x1x1x512.size inb_S1x1x1x2048_S1x1x1x512_0_0_0_512).toLoadRect (h6.unread b)))
      (Scalar.ofBits .f32 0x40E00000#32)
      (k0_pay12 (k0_pay5
        (View.readAt (Elt F) a4.view (⟨![0, 0], S768x128.size, ![8, 1], inb_S6144x128_S768x128_0_0_s_8_1⟩ : LoadRect S6144x128) (h4.unread x0))
        (View.readAt (Elt F) a4.view (⟨![1, 0], S768x128.size, ![8, 1], inb_S6144x128_S768x128_1_0_s_8_1⟩ : LoadRect S6144x128) (h4.unread x0))
        (View.readAt (Elt F) a4.view (⟨![2, 0], S768x128.size, ![8, 1], inb_S6144x128_S768x128_2_0_s_8_1⟩ : LoadRect S6144x128) (h4.unread x0))
        (View.readAt (Elt F) a4.view (⟨![3, 0], S768x128.size, ![8, 1], inb_S6144x128_S768x128_3_0_s_8_1⟩ : LoadRect S6144x128) (h4.unread x0))
        (View.readAt (Elt F) a4.view (⟨![4, 0], S768x128.size, ![8, 1], inb_S6144x128_S768x128_4_0_s_8_1⟩ : LoadRect S6144x128) (h4.unread x0))
        (View.readAt (Elt F) a4.view (⟨![5, 0], S768x128.size, ![8, 1], inb_S6144x128_S768x128_5_0_s_8_1⟩ : LoadRect S6144x128) (h4.unread x0))
        (View.readAt (Elt F) a4.view (⟨![6, 0], S768x128.size, ![8, 1], inb_S6144x128_S768x128_6_0_s_8_1⟩ : LoadRect S6144x128) (h4.unread x0))
        (View.readAt (Elt F) a4.view (⟨![7, 0], S768x128.size, ![8, 1], inb_S6144x128_S768x128_7_0_s_8_1⟩ : LoadRect S6144x128) (h4.unread x0))
        ) (View.readAt (Elt F) a10.view (Rect.unit (s := S1024x2048) ![0, 1536] S1024x512.size inb_S1024x2048_S1024x512_0_1536).toLoadRect W) (View.readAt (Elt F) a6.view (Rect.unit (s := S1x1x1x2048) ![0, 0, 0, 1536] S1x1x1x512.size inb_S1x1x1x2048_S1x1x1x512_0_0_0_1536).toLoadRect (h6.unread b)))
      (View.readAt (Elt F) a11.view (Rect.unit (s := S1024x1024) ![512, 0] S512x1024.size inb_S1024x1024_S512x1024_512_0).toLoadRect W')
      (View.readAt (Elt F) a8.view (Rect.unit (s := S1x1x1x1024) ![0, 0, 0, 0] S1x1x1x1024.size inb_S1x1x1x1024_S1x1x1x1024_0_0_0_0).toLoadRect (h8.unread bd))
      = blockRows wu wd x0 b bd := by
  have c := load_chunk a4 h4 x0
  have u := load_up a10 W wu hW
  have d := load_down a11 W' wd hW'
  have e := load_bias a6 h6 b
  have e8 : View.readAt (Elt F) a8.view (Rect.unit (s := S1x1x1x1024) ![0, 0, 0, 0] S1x1x1x1024.size inb_S1x1x1x1024_S1x1x1x1024_0_0_0_0).toLoadRect (h8.unread bd) = bd := by
    funext x
    refine (h8.readAt_unread _ _ _).trans (congrArg bd (funext fun a => Fin.ext ?_))
    match a with
    | 0 | 1 | 2 => exact congrArg Fin.val (Subsingleton.elim (α := Fin 1) _ _)
    | 3 => show 0 + 1 * (x 3).val = (x 3).val; omega
  unfold blockRows
  rw [e8, u 0 (by omega), u 512 (by omega), u 1024 (by omega), u 1536 (by omega), d 0 (by omega), d 512 (by omega), e 0 (by omega), e 512 (by omega),
    e 1024 (by omega), e 1536 (by omega)]
  rw [← c 0 inb_S6144x128_S768x128_0_0_s_8_1, ← c 1 inb_S6144x128_S768x128_1_0_s_8_1, ← c 2 inb_S6144x128_S768x128_2_0_s_8_1,
    ← c 3 inb_S6144x128_S768x128_3_0_s_8_1, ← c 4 inb_S6144x128_S768x128_4_0_s_8_1, ← c 5 inb_S6144x128_S768x128_5_0_s_8_1,
    ← c 6 inb_S6144x128_S768x128_6_0_s_8_1, ← c 7 inb_S6144x128_S768x128_7_0_s_8_1]
  rfl

end Cert.Experts

end
-- ==== Proof.ExpertRun.lean ====
/- One run of the experts' body on any staging buffers. -/
module

public import proofs.«01_k».proof.Proof.ExpertStores
public import Idealize.ShloMosaic.Lib.WholeRead
public import Idealize.ShloMosaic.Lib.WordCmp
public import Idealize.ShloMosaic.Lib.Pointwise.Index

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (UR sig nD τ) ℕ

/-! ## The tables' words -/

/-- The second table's word at a grid point, and the third table's word. -/
def wordFirst (c : Dev nD) (i : grid0.Coords) (x : TabBuf (F := F) c tabFirst) : BitVec 32 :=
  View.readAt (Elt F) tabFirst.view (Rect.unit (s := S214) (k0_off1 i) S1.size (k0_off1_inb i)).toLoadRect x (Shape.Idx.first (show 0 < S1.numel from numel1_S1.symm ▸ Nat.one_pos))

def wordUsed (c : Dev nD) (x : TabBuf (F := F) c tabUsed) : BitVec 32 :=
  View.readAt (Elt F) tabUsed.view (Rect.unit (s := S1) ![0] S1.size inb_S1_S1_0).toLoadRect x (Shape.Idx.first (show 0 < S1.numel from numel1_S1.symm ▸ Nat.one_pos))

/-- The caches are refilled where the second table says so. -/
abbrev Refill (w : BitVec 32) : Prop := (Scalar.cmpi .ne (Scalar.extui (Scalar.cmpi .eq w 1#32) : BitVec 32) 0#32) = 1#1

/-- A block is computed or zeroed, by the third table. -/
theorem idle_iff (i : grid0.Coords) (w : BitVec 32) : k0_cond3 i w = 1#1 ↔ ¬ k0_cond2 i w = 1#1 := by
  unfold k0_cond2 k0_cond3
  generalize BitVec.ofNat 32 (i 0).val = a
  have h : Scalar.cmpi .sge a w = ~~~ Scalar.cmpi .slt a w := by
    simp only [Scalar.cmpi, IntOp.cmpi, BitVec.sle_eq_not_slt]
    cases BitVec.slt a w <;> rfl
  simp only [h]
  generalize Scalar.cmpi .slt a w = b
  revert b
  decide

/-- What a point leaves in the result's buffer. -/
def outBlock (i : grid0.Coords) (w : BitVec 32) (x0 : Vec F S6144x128 .f32) (x1 : Vec F S1x1x1024x2048 .f32)
    (x2 : Vec F S1x1x1x2048 .f32) (x3 : Vec F S1x1x1024x1024 .f32) (x4 : Vec F S1x1x1x1024 .f32) : Vec F S6144x128 .f32 :=
  if k0_cond2 i w = 1#1 then tiled (blockRows (k0_pay1 x1) (k0_pay2 x3) x0 x2 x4) else k0_pay4

/-! ## The run -/

set_option maxHeartbeats 2000000 in
/-- One run of the body. The caches it finds are the current expert's wherever it does not refill them. -/
theorem run_body (c : Dev nD) (i : grid0.Coords)
    (arg4 : Memref sig .tc .vmem S6144x128 .f32) (harg4 : arg4.IsWhole) (arg5 : Memref sig .tc .vmem S1x1x1024x2048 .f32) (harg5 : arg5.IsWhole)
    (arg6 : Memref sig .tc .vmem S1x1x1x2048 .f32) (harg6 : arg6.IsWhole) (arg7 : Memref sig .tc .vmem S1x1x1024x1024 .f32) (harg7 : arg7.IsWhole)
    (arg8 : Memref sig .tc .vmem S1x1x1x1024 .f32) (harg8 : arg8.IsWhole) (arg9 : Memref sig .tc .vmem S6144x128 .f32) (harg9 : arg9.IsWhole)
    (arg10 : Memref sig .tc .vmem S1024x2048 .bf16) (harg10 : arg10.IsWhole) (arg11 : Memref sig .tc .vmem S1024x1024 .bf16) (harg11 : arg11.IsWhole)
    (x0 : Vec F S6144x128 .f32) (x1 : Vec F S1x1x1024x2048 .f32) (x2 : Vec F S1x1x1x2048 .f32) (x3 : Vec F S1x1x1024x1024 .f32)
    (x4 : Vec F S1x1x1x1024 .f32) (xt0 : TabBuf (F := F) c tabExpert) (xt1 : TabBuf (F := F) c tabFirst) (xt2 : TabBuf (F := F) c tabUsed)
    (xs0 : Vec F S1024x2048 .bf16) (xs1 : Vec F S1024x1024 .bf16)
    (h0 : ¬ Refill (wordFirst c i xt1) → xs0 = k0_pay1 x1) (h1 : ¬ Refill (wordFirst c i xt1) → xs1 = k0_pay2 x3) (E : Set ℕ) (K : PUnit → sProp 𝕄) :
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare xs0 ∗ owns (c : Thread nD τ) arg11 fullShare xs1 ∗ tabHalf c tabExpert xt0 ∗ tabHalf c tabFirst xt1 ∗ tabHalf c tabUsed xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (outBlock i (wordUsed c xt2) x0 x1 x2 x3 x4) ∗ owns (c : Thread nD τ) arg10 fullShare (k0_pay1 x1) ∗ owns (c : Thread nD τ) arg11 fullShare (k0_pay2 x3) ∗ tabHalf c tabExpert xt0 ∗ tabHalf c tabFirst xt1 ∗ tabHalf c tabUsed xt2) -∗ K ⟨⟩))
          ⊢ wp frame (wpE (defs₀ (F := F)) Variants.none c none) E (cc0_expert_ffn i tabExpert (Memref.isWhole_whole _) tabFirst (Memref.isWhole_whole _) tabUsed (Memref.isWhole_whole _) arg4 harg4 arg5 harg5 arg6 harg6 arg7 harg7 arg8 harg8 arg9 harg9 arg10 harg10 arg11 harg11) K := by
    simp only [cc0_expert_ffn_eq_skeleton]; unfold cc0_expert_ffn_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg10.eq_unread hfs0; obtain rfl := harg11.eq_unread hfs1
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr
      swap; · iexact H5
      ipureintro
      show View.read _ _ (if h3 : k0_cond3 i (wordUsed c xt2) = 1#1 then _ else
        if h2 : k0_cond2 i (wordUsed c xt2) = 1#1 then _ else _) = _
      unfold outBlock
      split
      · rw [if_neg ((idle_iff i _).mp ‹_›)]
        exact load_stored arg9.view _ (![0, 0] : Fin 2 → ℕ) (Fin.forall_fin_two.mpr ⟨rfl, rfl⟩) _ _
      · rename_i h3
        have h2 : k0_cond2 i (wordUsed c xt2) = 1#1 := not_not.mp fun h => h3 ((idle_iff i _).mpr h)
        rw [dif_pos h2, if_pos h2]
        refine stored_tiles _ _ _ _ _ _ _ _ _ ?_
        refine rows_loaded arg4 harg4 arg6 harg6 arg8 harg8 arg10 arg11 _ _ _ _ ?_ ?_ x0 x2 x4
        · show View.read _ _ (if hc : Refill (wordFirst c i xt1) then _ else _) = _
          split
          · refine (load_stored _ _ _ (fun a => by fin_cases a <;> rfl) _ _).trans ?_
            exact congrArg k0_pay1 (load_whole arg5 harg5 _ (![0, 0, 0, 0] : Fin 4 → ℕ) (fun a => by fin_cases a <;> rfl) _)
          · exact (harg10.read_unread _).trans (h0 ‹_›)
        · show View.read _ _ (if hc : Refill (wordFirst c i xt1) then _ else _) = _
          split
          · refine (load_stored _ _ _ (fun a => by fin_cases a <;> rfl) _ _).trans ?_
            exact congrArg k0_pay2 (load_whole arg7 harg7 _ (![0, 0, 0, 0] : Fin 4 → ℕ) (fun a => by fin_cases a <;> rfl) _)
          · exact (harg11.read_unread _).trans (h1 ‹_›)
    isplitl [HS0]
    · iexists _; isplitr
      swap; · iexact HS0
      ipureintro
      sl_unfold_words
      show View.read _ _ (if hc : Refill (wordFirst c i xt1) then _ else _) = _
      split
      · refine (load_stored _ _ _ (fun a => by fin_cases a <;> rfl) _ _).trans ?_
        exact congrArg k0_pay1 (load_whole arg5 harg5 _ (![0, 0, 0, 0] : Fin 4 → ℕ) (fun a => by fin_cases a <;> rfl) _)
      · exact (harg10.read_unread _).trans (h0 ‹_›)
    isplitl [HS1]
    · iexists _; isplitr
      swap; · iexact HS1
      ipureintro
      sl_unfold_words
      show View.read _ _ (if hc : Refill (wordFirst c i xt1) then _ else _) = _
      split
      · refine (load_stored _ _ _ (fun a => by fin_cases a <;> rfl) _ _).trans ?_
        exact congrArg k0_pay2 (load_whole arg7 harg7 _ (![0, 0, 0, 0] : Fin 4 → ℕ) (fun a => by fin_cases a <;> rfl) _)
      · exact (harg11.read_unread _).trans (h1 ‹_›)
    isplitl [HT0]; · iexact HT0
    isplitl [HT1]; · iexact HT1
    iexact HT2

end Cert.Experts

end
-- ==== Proof.ExpertFrame.lean ====
/- The experts' run: the pipeline's proof data, the body's obligation at every point, and what every final state holds. -/
module

public import proofs.«01_k».proof.Proof.ExpertRun

@[expose] public section

set_option maxRecDepth 16384

noncomputable section

namespace Cert.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- The point before `t` (the first point's is itself). -/
def prev (hO : Fits m) (t : Fin (call m hO).N) : Fin (call m hO).N := ⟨t.val - 1, Nat.lt_of_le_of_lt (Nat.sub_le _ _) t.isLt⟩

/-- Where the second table does not ask for a refill, the weights' blocks are those of the point before. -/
def Kept (hO : Fits m) : Prop := ∀ (c : Dev nD) (t : Fin (call m hO).N), ¬ Refill (wordFirst (F := F) c (grid0.coords t) (tables m 1)) →
  t.val ≠ 0 ∧ (k0_pay1 (blockAt m hO c 1 (prev m hO t)) : Vec F S1024x2048 .bf16) = k0_pay1 (blockAt m hO c 1 t)
    ∧ (k0_pay2 (blockAt m hO c 3 (prev m hO t)) : Vec F S1024x1024 .bf16) = k0_pay2 (blockAt m hO c 3 t)

/-- What point `t` leaves in the result's buffer. -/
def outAt (hO : Fits m) (c : Dev nD) (t : Fin (call m hO).N) : Vec F S6144x128 .f32 :=
  outBlock (grid0.coords t) (wordUsed (F := F) c (tables m 2)) (blockAt m hO c 0 t) (blockAt m hO c 1 t) (blockAt m hO c 2 t)
    (blockAt m hO c 3 t) (blockAt m hO c 4 t)

/-- The caches after point `t`: the weights of `t`'s expert, rounded. -/
abbrev cached (hO : Fits m) (c : Dev nD) (t : Fin (call m hO).N) : sProp 𝕄 :=
  iprop(owns (c : Thread nD τ) cacheUp fullShare (k0_pay1 (blockAt m hO c 1 t)) ∗ owns (c : Thread nD τ) cacheDown fullShare (k0_pay2 (blockAt m hO c 3 t)))

/-- The invariant before position `n`. -/
def inv (hO : Fits m) (c : Dev nD) : (n : ℕ) → n ≤ (call m hO).N → sProp 𝕄
  | 0, _ => iprop(Pipeline.ΦA spec0 c ∗ Pipeline.ΦT pre0 (tables m) c)
  | n + 1, hn => iprop(iprop(cached m hO c ⟨n, hn⟩ ∗ (∃ r, prngReg c r)) ∗ Pipeline.ΦT pre0 (tables m) c)

theorem inv_pos (hO : Fits m) (c : Dev nD) (t : Fin (call m hO).N) (hz : t.val ≠ 0) :
    inv m hO c t.val (Nat.le_of_lt t.isLt)
      = iprop(iprop(cached m hO c (prev m hO t) ∗ (∃ r, prngReg c r)) ∗ Pipeline.ΦT pre0 (tables m) c) := by
  obtain ⟨n, hn⟩ := t
  cases n with
  | zero => exact absurd rfl hz
  | succ n => rfl

/-- The pipeline's proof data on core `c`. -/
def data (hO : Fits m) (_ : Fin 1) (c : Dev nD) : Dat τ (Elt F) Unit ℕ (UR sig nD τ) ℕ (call m hO) c where
  A w := entry m c (Pipeline.arrRef spec0 w)
  after w t := match w with
    | ⟨0, _⟩ => blockAt m hO c 0 t
    | ⟨1, _⟩ => blockAt m hO c 1 t
    | ⟨2, _⟩ => blockAt m hO c 2 t
    | ⟨3, _⟩ => blockAt m hO c 3 t
    | ⟨4, _⟩ => blockAt m hO c 4 t
    | ⟨5, _⟩ => outAt m hO c t
  Φ t := inv m hO c t.val (Nat.le_of_lt_succ t.isLt)
  q _ := fullShare
  owed _ := 0

theorem data_A (hO : Fits m) (c : Dev nD) (w : Fin (call m hO).W) : (data m hO 0 c).A w = entry m c (Pipeline.arrRef spec0 w) := by
  dsimp only [data]

theorem data_inv (hO : Fits m) (c : Dev nD) (t : Fin (call m hO).N) :
    (data m hO 0 c).Φ t.castSucc = inv m hO c t.val (Nat.le_of_lt t.isLt) := by
  dsimp only [data]; exact Pipeline.Dat.Φ_castSucc (inv m hO c) t

theorem left_0 (hO : Fits m) (c : Dev nD) (t : Fin (call m hO).N) : (data m hO 0 c).after 0 t = blockAt m hO c 0 t := by dsimp only [data]; try rfl
theorem left_1 (hO : Fits m) (c : Dev nD) (t : Fin (call m hO).N) : (data m hO 0 c).after 1 t = blockAt m hO c 1 t := by dsimp only [data]; try rfl
theorem left_2 (hO : Fits m) (c : Dev nD) (t : Fin (call m hO).N) : (data m hO 0 c).after 2 t = blockAt m hO c 2 t := by dsimp only [data]; try rfl
theorem left_3 (hO : Fits m) (c : Dev nD) (t : Fin (call m hO).N) : (data m hO 0 c).after 3 t = blockAt m hO c 3 t := by dsimp only [data]; try rfl
theorem left_4 (hO : Fits m) (c : Dev nD) (t : Fin (call m hO).N) : (data m hO 0 c).after 4 t = blockAt m hO c 4 t := by dsimp only [data]; try rfl
theorem left_5 (hO : Fits m) (c : Dev nD) (t : Fin (call m hO).N) : (data m hO 0 c).after 5 t = outAt m hO c t := by dsimp only [data]; try rfl

theorem found_0 (hO : Fits m) (c : Dev nD) (t : Fin (call m hO).N) (d) : (data m hO 0 c).before 0 t d = blockAt m hO c 0 t :=
  ((data m hO 0 c).before_in_eq_fetched 0 rfl (fun _ => rfl) (fun _ _ _ => rfl) (fun t => by
    rw [left_0]; unfold Dat.blockOf blockAt; rw [data_A]; try rfl) t d).trans (by
    unfold Dat.fetched Dat.blockOf blockAt; rw [data_A]; try rfl)
theorem found_1 (hO : Fits m) (c : Dev nD) (t : Fin (call m hO).N) (d) : (data m hO 0 c).before 1 t d = blockAt m hO c 1 t :=
  ((data m hO 0 c).before_in_eq_fetched 1 rfl (fun _ => rfl) (fun _ _ _ => rfl) (fun t => by
    rw [left_1]; unfold Dat.blockOf blockAt; rw [data_A]; try rfl) t d).trans (by
    unfold Dat.fetched Dat.blockOf blockAt; rw [data_A]; try rfl)
theorem found_2 (hO : Fits m) (c : Dev nD) (t : Fin (call m hO).N) (d) : (data m hO 0 c).before 2 t d = blockAt m hO c 2 t :=
  ((data m hO 0 c).before_in_eq_fetched 2 rfl (fun _ => rfl) (fun _ _ _ => rfl) (fun t => by
    rw [left_2]; unfold Dat.blockOf blockAt; rw [data_A]; try rfl) t d).trans (by
    unfold Dat.fetched Dat.blockOf blockAt; rw [data_A]; try rfl)
theorem found_3 (hO : Fits m) (c : Dev nD) (t : Fin (call m hO).N) (d) : (data m hO 0 c).before 3 t d = blockAt m hO c 3 t :=
  ((data m hO 0 c).before_in_eq_fetched 3 rfl (fun _ => rfl) (fun _ _ _ => rfl) (fun t => by
    rw [left_3]; unfold Dat.blockOf blockAt; rw [data_A]; try rfl) t d).trans (by
    unfold Dat.fetched Dat.blockOf blockAt; rw [data_A]; try rfl)
theorem found_4 (hO : Fits m) (c : Dev nD) (t : Fin (call m hO).N) (d) : (data m hO 0 c).before 4 t d = blockAt m hO c 4 t :=
  ((data m hO 0 c).before_in_eq_fetched 4 rfl (fun _ => rfl) (fun _ _ _ => rfl) (fun t => by
    rw [left_4]; unfold Dat.blockOf blockAt; rw [data_A]; try rfl) t d).trans (by
    unfold Dat.fetched Dat.blockOf blockAt; rw [data_A]; try rfl)

/-- What the body is called with at point `t`, window by window, and what it returns. -/
def given (hO : Fits m) (c : Dev nD) (t : Fin (call m hO).N) : sProp 𝕄 :=
  iprop((data m hO 0 c).Φ t.castSucc ∗ (data m hO 0 c).owesAt () t.castSucc
    ∗ (∃ d, owns (c : Thread nD τ) (stIn0 m hO t) fullShare ((data m hO 0 c).before 0 t d))
    ∗ (∃ d, owns (c : Thread nD τ) (stIn1 m hO t) fullShare ((data m hO 0 c).before 1 t d))
    ∗ (∃ d, owns (c : Thread nD τ) (stIn2 m hO t) fullShare ((data m hO 0 c).before 2 t d))
    ∗ (∃ d, owns (c : Thread nD τ) (stIn3 m hO t) fullShare ((data m hO 0 c).before 3 t d))
    ∗ (∃ d, owns (c : Thread nD τ) (stIn4 m hO t) fullShare ((data m hO 0 c).before 4 t d))
    ∗ (∃ d, owns (c : Thread nD τ) (stOut m hO t) fullShare ((data m hO 0 c).before 5 t d)))

def returned (hO : Fits m) (c : Dev nD) (t : Fin (call m hO).N) : sProp 𝕄 :=
  iprop((data m hO 0 c).Φ t.succ ∗ (data m hO 0 c).owesAt () t.succ
    ∗ owns (c : Thread nD τ) (stIn0 m hO t) fullShare ((data m hO 0 c).after 0 t)
    ∗ owns (c : Thread nD τ) (stIn1 m hO t) fullShare ((data m hO 0 c).after 1 t)
    ∗ owns (c : Thread nD τ) (stIn2 m hO t) fullShare ((data m hO 0 c).after 2 t)
    ∗ owns (c : Thread nD τ) (stIn3 m hO t) fullShare ((data m hO 0 c).after 3 t)
    ∗ owns (c : Thread nD τ) (stIn4 m hO t) fullShare ((data m hO 0 c).after 4 t)
    ∗ owns (c : Thread nD τ) (stOut m hO t) fullShare ((data m hO 0 c).after 5 t))

/-- The body at point `t`, from caches that are the expert's wherever they are not refilled. -/
theorem body_run (hO : Fits m) (c : Dev nD) (t : Fin (call m hO).N) (xs0 : Vec F S1024x2048 .bf16) (xs1 : Vec F S1024x1024 .bf16)
    (h0 : ¬ Refill (wordFirst (F := F) c (grid0.coords t) (tables m 1)) → xs0 = k0_pay1 (blockAt m hO c 1 t))
    (h1 : ¬ Refill (wordFirst (F := F) c (grid0.coords t) (tables m 1)) → xs1 = k0_pay2 (blockAt m hO c 3 t)) :
    iprop(iprop(iprop(iprop(owns (c : Thread nD τ) cacheUp fullShare xs0 ∗ owns (c : Thread nD τ) cacheDown fullShare xs1) ∗ (∃ r, prngReg c r))
        ∗ Pipeline.ΦT pre0 (tables m) c) ∗ (data m hO 0 c).owesAt () t.castSucc
    ∗ (∃ d, owns (c : Thread nD τ) (stIn0 m hO t) fullShare ((data m hO 0 c).before 0 t d))
    ∗ (∃ d, owns (c : Thread nD τ) (stIn1 m hO t) fullShare ((data m hO 0 c).before 1 t d))
    ∗ (∃ d, owns (c : Thread nD τ) (stIn2 m hO t) fullShare ((data m hO 0 c).before 2 t d))
    ∗ (∃ d, owns (c : Thread nD τ) (stIn3 m hO t) fullShare ((data m hO 0 c).before 3 t d))
    ∗ (∃ d, owns (c : Thread nD τ) (stIn4 m hO t) fullShare ((data m hO 0 c).before 4 t d))
    ∗ (∃ d, owns (c : Thread nD τ) (stOut m hO t) fullShare ((data m hO 0 c).before 5 t d)))
      ⊢ wp frame (wpE (defs₀ (F := F)) Variants.none c none) Set.univ (bodyAt m hO t) (fun _ => returned m hO c t) := by
  unfold returned
  simp only [found_0, found_1, found_2, found_3, found_4]
  rw [show (data m hO 0 c).owesAt () t.succ = (data m hO 0 c).owesAt () t.castSucc from rfl,
    left_0, left_1, left_2, left_3, left_4, left_5]
  rw [show (data m hO 0 c).Φ t.succ = iprop(iprop(cached m hO c t ∗ (∃ r, prngReg c r)) ∗ Pipeline.ΦT pre0 (tables m) c) from rfl, tables_held]
  unfold outAt
  iintro ⟨⟨⟨⟨HS0, HS1⟩, Hg⟩, ⟨HT0, HT1, HT2⟩⟩, Ho, ⟨%d0, H0⟩, ⟨%d1, H1⟩, ⟨%d2, H2⟩, ⟨%d3, H3⟩, ⟨%d4, H4⟩, ⟨%d5, H5⟩⟩
  iapply (run_body c (grid0.coords t) _ _ _ _ _ _ _ _ _ _ _ _ _ _ _ _ (blockAt m hO c 0 t) (blockAt m hO c 1 t) (blockAt m hO c 2 t)
    (blockAt m hO c 3 t) (blockAt m hO c 4 t) (tables m 0) (tables m 1) (tables m 2) xs0 xs1 h0 h1 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HT0]; · iexact HT0
  isplitl [HT1]; · iexact HT1
  isplitl [HT2]; · iexact HT2
  iintro ⟨H0, H1, H2, H3, H4, H5, HS0, HS1, HT0, HT1, HT2⟩
  isplitl [HS0 HS1 Hg HT0 HT1 HT2]
  · isplitl [HS0 HS1 Hg]
    · isplitl [HS0 HS1]
      · isplitl [HS0]
        · iexact HS0
        iexact HS1
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  iexact H5

/-- The body at any point. -/
theorem body_sound (hO : Fits m) (hK : Kept m hO) (c : Dev nD) (t : Fin (call m hO).N) :
    given m hO c t ⊢ wp frame (wpE (defs₀ (F := F)) Variants.none c none) Set.univ (bodyAt m hO t) (fun _ => returned m hO c t) := by
  unfold given
  by_cases hz : t.val = 0
  · have hi : (data m hO 0 c).Φ t.castSucc = iprop(Pipeline.ΦA spec0 c ∗ Pipeline.ΦT pre0 (tables m) c) := by
      rw [data_inv]
      obtain ⟨n, hn⟩ := t
      obtain rfl : n = 0 := hz
      rfl
    rw [hi, rest_held]
    iintro ⟨⟨⟨⟨⟨%xs0, HS0⟩, ⟨%xs1, HS1⟩⟩, Hg⟩, HT⟩, Hr⟩
    iapply (body_run m hO c t xs0 xs1 (fun h => absurd hz (hK c t h).1) (fun h => absurd hz (hK c t h).1))
    isplitl [HS0 HS1 Hg HT]
    · isplitl [HS0 HS1 Hg]
      · isplitl [HS0 HS1]
        · isplitl [HS0]; · iexact HS0
          iexact HS1
        iexact Hg
      iexact HT
    iexact Hr
  · rw [data_inv, inv_pos m hO c t hz]
    exact body_run m hO c t _ _ (fun h => (hK c t h).2.1) (fun h => (hK c t h).2.2)

/-- The body table's row at point `t` is the body. -/
theorem row_at (hO : Fits m) (t : Fin (call m hO).N) :
    defs₀ (F := F) .tc (call m hO).body ((call m hO).bodyArgs t ((call m hO).slots t)) = bodyAt m hO t := by
  unfold defs₀; rw [Defs.onTc_tc]

/-- The library's obligation at every point. -/
theorem obligation (hO : Fits m) (hK : Kept m hO) (c : Dev nD) :
    Pipeline.BodyObligation (data (F := F) m hO 0 c) (defs₀ (F := F)) Variants.none () Set.univ := fun t => by
  rw [bigSep_W0, bigSep_W0, row_at m hO]
  have hf : ((pcfg0 (F := F)).win (admitted m hO) 5).flush t = true := flush_out (admitted m hO) t
  exact triple_restated (body_sound m hO hK c t) rfl .rfl fun _ => by
    unfold returned
    refine sep_mono .rfl (sep_mono .rfl (sep_mono .rfl (sep_mono .rfl (sep_mono .rfl (sep_mono .rfl (sep_mono .rfl ?_))))))
    dsimp only
    generalize idle0 (tables m) 5 (((pcfg0 (F := F)).gridAt (tables m)).coords t) = b
    cases b
    · exact Idealize.SL.BI.Entails.refl _
    · dsimp only
      split
      · rename_i h
        exact absurd (hf.symm.trans h) (by decide)
      · exact Idealize.SL.BI.Entails.refl _

theorem inv_in (hO : Fits m) (c : Dev nD) : iprop(Pipeline.ΦA spec0 c ∗ Pipeline.ΦT pre0 (tables m) c) ⊢ (data m hO 0 c).Φ 0 := by
  rw [show (data m hO 0 c).Φ 0 = iprop(Pipeline.ΦA spec0 c ∗ Pipeline.ΦT pre0 (tables m) c) from rfl]
  try exact Idealize.SL.BI.Entails.refl _

theorem inv_out (hO : Fits m) (c : Dev nD) : (data m hO 0 c).Φ (Fin.last (call m hO).N) ⊢ Pipeline.ΦA spec0 c := by
  have hN : (call m hO).N = 213 + 1 := N_0
  rw [show (data m hO 0 c).Φ (Fin.last (call m hO).N) = inv m hO c (213 + 1) (by rw [hN]) from rfl]
  unfold inv
  rw [rest_held]
  iintro ⟨⟨⟨HS0, HS1⟩, Hg⟩, -⟩
  isplitl [HS0 HS1]
  · isplitl [HS0]
    · iexists _; iexact HS0
    iexists _; iexact HS1
  iexact Hg

set_option backward.isDefEq.respectTransparency.types false in
/-- The launch: every final state holds the pipeline's arrays and the other buffers as stated, and no counter is left up. -/
theorem run_calm (hO : Fits m) (hK : Kept m hO) : θ_run defs (onTc (τ := τ) (main (F := F))) (s₀ m ρ)
    (fun r => (Pipeline.FramePost (Pipeline.pin pcfgs fun _ => admitted m hO) (data m hO) 0 (entry m)) r ∧ r.2.sem = fun _ => 0) :=
  Pipeline.θ_run_frameP_track (Q' := _) pcfgs (fun _ => admitted m hO) (data m hO) (0 : Fin 1) launch0 defs₀ Variants.none m ρ main
    (hbody := fun c => (obligation m hO hK c).loose) (hshare := fun c => (data m hO 0 c).share_full fun _ => rfl)
    (howed := fun _ _ => rfl) (V := entry m) (hmain := host_lines m Variants.none) (hA := data_A m hO) (hpf := entry_table m)
    (hin := inv_in m hO) (hout := inv_out m hO)

/-- Of every final state: the result's array is what the pipeline writes back, the arguments are unchanged, no counter is left up. -/
theorem run_all (hO : Fits m) (hK : Kept m hO) : θ_run defs (onTc (τ := τ) (main (F := F))) ⟨m, fun _ => 0, ρ⟩ (fun r => (∀ c : Dev nD,
      r.2.mem ((c : Thread nD τ).loc main_v25) = (data m hO 0 c).arrAt 5 (call m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine (θ_run defs _ _).mono (fun r h => ?_) (run_calm m ρ hO hK)
  refine ⟨fun c => ⟨(h.1 c).1 5, ((h.1 c).2 main_arg0 (by decide : main_arg0 ∈ Pipeline.restRefs sig spec0)).trans (entry_arg m c _ (by decide)),
    ((h.1 c).2 main_arg1 (by decide : main_arg1 ∈ Pipeline.restRefs sig spec0)).trans (entry_arg m c _ (by decide)),
    ((h.1 c).1 1).trans (((data m hO 0 c).arrAt_in 1 rfl _).trans ((data_A m hO c 1).trans (entry_arg m c main_arg2 (by decide)))),
    ((h.1 c).2 main_arg3 (by decide : main_arg3 ∈ Pipeline.restRefs sig spec0)).trans (entry_arg m c _ (by decide)),
    ((h.1 c).1 3).trans (((data m hO 0 c).arrAt_in 3 rfl _).trans ((data_A m hO c 3).trans (entry_arg m c main_arg4 (by decide)))),
    ((h.1 c).2 main_arg5 (by decide : main_arg5 ∈ Pipeline.restRefs sig spec0)).trans (entry_arg m c _ (by decide))⟩, h.2⟩

end Cert.Experts

end
-- ==== Proof.ExpertBlocks.lean ====
/- The blocks of the experts' call: each lies inside its array, a block of rows that is not its expert's first finds the
   expert's weights in the caches, and what each block holds. -/
module

public import proofs.«01_k».proof.Proof.ExpertTables
public import proofs.«01_k».proof.Proof.ExpertFrame

@[expose] public section

set_option maxRecDepth 16384

noncomputable section

namespace Cert.Experts

open Idealize.ShloMosaic Idealize.ShloMosaic.TcCoe Idealize.ShloMosaic.Tactic Idealize.SL.Sem
open Cert.Kernel2Ideal Cert.Kernel2Ideal.Gen

variable {F : FTy → Type} [FloatOps F]
variable (m : (ℓ : Loc nD τ sig) → Buf (Elt F) ℓ)

/-- Some block holds rows. -/
abbrev SomeUsed : Prop := 768 ≤ (ends m (ix1 (31 : Fin 32))).toInt

/-- The expert of the block at grid point `i`. -/
abbrev expertAt (i : grid0.Coords) : Fin 32 := expertOf (F := F) (ends m) ⟨(i 0).val, (i 0).isLt⟩

theorem off_val (i : grid0.Coords) : k0_off1 i = ![(i 0).val] := by
  unfold k0_off1
  have h : (i 0).val < 214 := (i 0).isLt
  have e : (BitVec.ofNat 32 (i 0).val).toNat = (i 0).val := by rw [BitVec.toNat_ofNat]; omega
  show ![(BitVec.ofNat 32 (i 0).val).toNat] = _
  rw [e]

theorem named_expert (i : grid0.Coords) :
    ((tables m).at 0 (Rect.unit (s := S214) (k0_off1 i) S1.size (k0_off1_inb i)) numel1_S1 : BitVec 32) = BitVec.ofNat 32 (expertAt m i).val := by
  refine (table_expert_at m _).trans (congrArg (fun e : Fin 214 => BitVec.ofNat 32 (expertOf (F := F) (ends m) e).val) (Fin.ext ?_))
  show k0_off1 i 0 + 1 * 0 = (i 0).val
  rw [off_val]
  rfl

theorem named_used (hx : SomeUsed m) :
    ((tables m).at 2 (Rect.unit (s := S1) ![0] S1.size inb_S1_S1_0) numel1_S1 : BitVec 32) = BitVec.ofNat 32 (usedOf (ends m)) :=
  table_used_at m hx _

theorem index_weights (i : grid0.Coords) : (cc0_transform_1 k0_off1_inb numel1_S1 (tables m) i : Fin 4 → ℕ) = ![0, (expertAt m i).val, 0, 0] := by
  show ![(0#32 : BitVec 32).toNat, ((tables m).at 0 (Rect.unit (s := S214) (k0_off1 i) S1.size (k0_off1_inb i)) numel1_S1 : BitVec 32).toNat, (0#32 : BitVec 32).toNat, (0#32 : BitVec 32).toNat] = _
  have e : (BitVec.ofNat 32 (expertAt m i).val).toNat = (expertAt m i).val := by rw [BitVec.toNat_ofNat]; omega
  rw [named_expert, e]
  rfl

theorem index_rows (hx : SomeUsed m) (i : grid0.Coords) :
    (cc0_transform_0 inb_S1_S1_0 numel1_S1 (tables m) i : Fin 2 → ℕ) = ![min (i 0).val (usedOf (ends m) - 1), 0] := by
  show ![(Scalar.minsi (BitVec.ofNat 32 (i 0).val) (Scalar.subi ((tables m).at 2 (Rect.unit (s := S1) ![0] S1.size inb_S1_S1_0) numel1_S1 : BitVec 32) 1#32)).toNat, (0#32 : BitVec 32).toNat] = _
  rw [named_used m hx]
  have h : (i 0).val < 214 := (i 0).isLt
  obtain ⟨h1, h2⟩ := used_pos _ hx
  have e : Scalar.subi (BitVec.ofNat 32 (usedOf (ends m))) 1#32 = BitVec.ofNat 32 (usedOf (ends m) - 1) := by
    apply BitVec.eq_of_toNat_eq
    show (BitVec.ofNat 32 (usedOf (ends m)) - 1#32).toNat = _
    rw [BitVec.toNat_sub, BitVec.toNat_ofNat, BitVec.toNat_ofNat, BitVec.toNat_ofNat]
    omega
  rw [e]
  generalize usedOf (ends m) = u at h1 h2
  have e2 : (Scalar.minsi (BitVec.ofNat 32 (i 0).val) (BitVec.ofNat 32 (u - 1))).toNat = min (i 0).val (u - 1) := by
    show (if (BitVec.ofNat 32 (i 0).val).slt (BitVec.ofNat 32 (u - 1)) then BitVec.ofNat 32 (i 0).val else BitVec.ofNat 32 (u - 1)).toNat = _
    rw [BitVec.slt, WordCmp.toInt_ofNat_of_lt (by omega), WordCmp.toInt_ofNat_of_lt (by omega)]
    split
    · rename_i hc
      have := of_decide_eq_true hc
      rw [BitVec.toNat_ofNat]
      omega
    · rename_i hc
      have := of_decide_eq_false (Bool.eq_false_iff.mpr hc)
      rw [BitVec.toNat_ofNat]
      omega
  rw [e2]
  rfl

theorem fits (hx : SomeUsed m) : Fits m := by
  refine ⟨fun i => ⟨?_, Or.inl rfl⟩, fun i => ⟨?_, Or.inl rfl⟩, fun i => ⟨?_, Or.inl rfl⟩, fun i => ⟨?_, Or.inl rfl⟩, fun i => ⟨?_, Or.inl rfl⟩⟩
  · rw [index_rows m hx]
    have : (i 0).val < 214 := (i 0).isLt
    intro a
    fin_cases a
    · show (min (i 0).val (usedOf (ends m) - 1) + 1) * 6144 ≤ 1314816
      omega
    · show (0 + 1) * 128 ≤ 128
      omega
  all_goals
    intro a
    first
      | rw [show cc0_transform_1 k0_off1_inb numel1_S1 (tables m) i = _ from index_weights m i]
      | rw [show cc0_transform_2 k0_off1_inb numel1_S1 (tables m) i = _ from index_weights m i]
      | rw [show cc0_transform_3 k0_off1_inb numel1_S1 (tables m) i = _ from index_weights m i]
      | rw [show cc0_transform_4 k0_off1_inb numel1_S1 (tables m) i = _ from index_weights m i]
    have : (expertAt m i).val < 32 := (expertAt m i).isLt
    fin_cases a <;> simp <;> omega

/-- The grid's point `t` has the coordinate `t`. -/
theorem coord_val : ∀ t : Fin grid0.N, ((grid0.coords t) 0).val = t.val := by decide +kernel

theorem word_first (c : Dev nD) (i : grid0.Coords) :
    wordFirst (F := F) c i (tables m 1) = (tables m 1 : IVec S214 32) (ix1 ⟨(i 0).val, (i 0).isLt⟩) := by
  refine congrArg (tables m 1 : IVec S214 32) (funext fun a => Fin.ext ?_)
  match a with
  | ⟨0, _⟩ =>
    show k0_off1 i 0 + 1 * 0 = (i 0).val
    rw [off_val]
    rfl

theorem word_used (hx : SomeUsed m) (c : Dev nD) : wordUsed (F := F) c (tables m 2) = BitVec.ofNat 32 (usedOf (ends m)) :=
  table_used_at m hx _

/-! ## What the blocks hold -/

/-- Element `y` of a block of the arrays laid out by experts. -/
theorem rows_block (hO : Fits m) (hx : SomeUsed m) (c : Dev nD) (t : Fin (call m hO).N) (y : S6144x128.Idx) :
    blockAt m hO c 0 t y = (entry m c main_v22 : FVec F S1314816x128 .f32)
      (ix2 ⟨min t.val (usedOf (ends m) - 1) * 6144 + (y 0).val, by
        have h1 : t.val < 214 := lt_of_eq_of_lt (coord_val t).symm ((grid0.coords t) 0).isLt
        have h2 : (y 0).val < 6144 := (y 0).isLt
        omega⟩ ⟨(y 1).val, (y 1).isLt⟩) := by
  refine congrArg (entry m c main_v22 : FVec F S1314816x128 .f32) (funext fun a => Fin.ext ?_)
  show cc0_transform_0 inb_S1_S1_0 numel1_S1 (tables m) (grid0.coords t) a * S6144x128.size a + 1 * (y a).val = _
  rw [index_rows m hx, coord_val]
  match a with
  | ⟨0, _⟩ => show min t.val (usedOf (ends m) - 1) * 6144 + 1 * (y 0).val = min t.val (usedOf (ends m) - 1) * 6144 + (y 0).val; omega
  | ⟨1, _⟩ => show 0 * 128 + 1 * (y 1).val = (y 1).val; omega

theorem up_block (hO : Fits m) (c : Dev nD) (t : Fin (call m hO).N) (y : S1x1x1024x2048.Idx) :
    blockAt m hO c 1 t y = (entry m c main_arg2 : FVec F S4x32x1024x2048 .f32) (ix4 (0 : Fin 4) (expertAt m (grid0.coords t)) ⟨(y 2).val, (y 2).isLt⟩ ⟨(y 3).val, (y 3).isLt⟩) := by
  refine congrArg (entry m c main_arg2 : FVec F S4x32x1024x2048 .f32) (funext fun a => Fin.ext ?_)
  show cc0_transform_1 k0_off1_inb numel1_S1 (tables m) (grid0.coords t) a * S1x1x1024x2048.size a + 1 * (y a).val = _
  rw [index_weights]
  have h0 : (y 0).val < 1 := (y 0).isLt
  have h1 : (y 1).val < 1 := (y 1).isLt
  match a with
  | ⟨0, _⟩ => show 0 * 1 + 1 * (y 0).val = 0; omega
  | ⟨1, _⟩ => show (expertAt m (grid0.coords t)).val * 1 + 1 * (y 1).val = (expertAt m (grid0.coords t)).val; omega
  | ⟨2, _⟩ => show 0 * 1024 + 1 * (y 2).val = (y 2).val; omega
  | ⟨3, _⟩ => show 0 * 2048 + 1 * (y 3).val = (y 3).val; omega

theorem upBias_block (hO : Fits m) (c : Dev nD) (t : Fin (call m hO).N) (y : S1x1x1x2048.Idx) :
    blockAt m hO c 2 t y = (entry m c main_v23 : FVec F S4x32x1x2048 .f32) (ix4 (0 : Fin 4) (expertAt m (grid0.coords t)) (0 : Fin 1) ⟨(y 3).val, (y 3).isLt⟩) := by
  refine congrArg (entry m c main_v23 : FVec F S4x32x1x2048 .f32) (funext fun a => Fin.ext ?_)
  show cc0_transform_1 k0_off1_inb numel1_S1 (tables m) (grid0.coords t) a * S1x1x1x2048.size a + 1 * (y a).val = _
  rw [index_weights]
  have h0 : (y 0).val < 1 := (y 0).isLt
  have h1 : (y 1).val < 1 := (y 1).isLt
  have h2 : (y 2).val < 1 := (y 2).isLt
  match a with
  | ⟨0, _⟩ => show 0 * 1 + 1 * (y 0).val = 0; omega
  | ⟨1, _⟩ => show (expertAt m (grid0.coords t)).val * 1 + 1 * (y 1).val = (expertAt m (grid0.coords t)).val; omega
  | ⟨2, _⟩ => show 0 * 1 + 1 * (y 2).val = 0; omega
  | ⟨3, _⟩ => show 0 * 2048 + 1 * (y 3).val = (y 3).val; omega

theorem down_block (hO : Fits m) (c : Dev nD) (t : Fin (call m hO).N) (y : S1x1x1024x1024.Idx) :
    blockAt m hO c 3 t y = (entry m c main_arg4 : FVec F S4x32x1024x1024 .f32) (ix4 (0 : Fin 4) (expertAt m (grid0.coords t)) ⟨(y 2).val, (y 2).isLt⟩ ⟨(y 3).val, (y 3).isLt⟩) := by
  refine congrArg (entry m c main_arg4 : FVec F S4x32x1024x1024 .f32) (funext fun a => Fin.ext ?_)
  show cc0_transform_1 k0_off1_inb numel1_S1 (tables m) (grid0.coords t) a * S1x1x1024x1024.size a + 1 * (y a).val = _
  rw [index_weights]
  have h0 : (y 0).val < 1 := (y 0).isLt
  have h1 : (y 1).val < 1 := (y 1).isLt
  match a with
  | ⟨0, _⟩ => show 0 * 1 + 1 * (y 0).val = 0; omega
  | ⟨1, _⟩ => show (expertAt m (grid0.coords t)).val * 1 + 1 * (y 1).val = (expertAt m (grid0.coords t)).val; omega
  | ⟨2, _⟩ => show 0 * 1024 + 1 * (y 2).val = (y 2).val; omega
  | ⟨3, _⟩ => show 0 * 1024 + 1 * (y 3).val = (y 3).val; omega

theorem downBias_block (hO : Fits m) (c : Dev nD) (t : Fin (call m hO).N) (y : S1x1x1x1024.Idx) :
    blockAt m hO c 4 t y = (entry m c main_v24 : FVec F S4x32x1x1024 .f32) (ix4 (0 : Fin 4) (expertAt m (grid0.coords t)) (0 : Fin 1) ⟨(y 3).val, (y 3).isLt⟩) := by
  refine congrArg (entry m c main_v24 : FVec F S4x32x1x1024 .f32) (funext fun a => Fin.ext ?_)
  show cc0_transform_1 k0_off1_inb numel1_S1 (tables m) (grid0.coords t) a * S1x1x1x1024.size a + 1 * (y a).val = _
  rw [index_weights]
  have h0 : (y 0).val < 1 := (y 0).isLt
  have h1 : (y 1).val < 1 := (y 1).isLt
  have h2 : (y 2).val < 1 := (y 2).isLt
  match a with
  | ⟨0, _⟩ => show 0 * 1 + 1 * (y 0).val = 0; omega
  | ⟨1, _⟩ => show (expertAt m (grid0.coords t)).val * 1 + 1 * (y 1).val = (expertAt m (grid0.coords t)).val; omega
  | ⟨2, _⟩ => show 0 * 1 + 1 * (y 2).val = 0; omega
  | ⟨3, _⟩ => show 0 * 1024 + 1 * (y 3).val = (y 3).val; omega

/-- Two points whose blocks are of one expert have the same blocks of weights. -/
theorem weights_same (hO : Fits m) (c : Dev nD) (s t : Fin (call m hO).N) (h : expertAt m (grid0.coords s) = expertAt m (grid0.coords t)) :
    (blockAt m hO c 1 s : FVec F S1x1x1024x2048 .f32) = blockAt m hO c 1 t ∧ (blockAt m hO c 3 s : FVec F S1x1x1024x1024 .f32) = blockAt m hO c 3 t := by
  refine ⟨funext fun (y : S1x1x1024x2048.Idx) => ?_, funext fun (y : S1x1x1024x1024.Idx) => ?_⟩
  · exact ((up_block m hO c s y).trans (congrArg (fun e : Fin 32 => (entry m c main_arg2 : FVec F S4x32x1024x2048 .f32) (ix4 (0 : Fin 4) e ⟨(y 2).val, (y 2).isLt⟩ ⟨(y 3).val, (y 3).isLt⟩)) h)).trans (up_block m hO c t y).symm
  · exact ((down_block m hO c s y).trans (congrArg (fun e : Fin 32 => (entry m c main_arg4 : FVec F S4x32x1024x1024 .f32) (ix4 (0 : Fin 4) e ⟨(y 2).val, (y 2).isLt⟩ ⟨(y 3).val, (y 3).isLt⟩)) h)).trans (down_block m hO c t y).symm

theorem kept (hO : Fits m) : Kept m hO := by
  intro c t ht
  rw [word_first] at ht
  have hne : (tables m 1 : IVec S214 32) (ix1 ⟨((grid0.coords t) 0).val, ((grid0.coords t) 0).isLt⟩) ≠ 1#32 := fun e => ht (by rw [e]; decide)
  obtain ⟨h0, he⟩ := table_first_at m _ hne
  have hs : expertAt m (grid0.coords (prev m hO t)) = expertAt m (grid0.coords t) := by
    refine Eq.trans (congrArg (expertOf (F := F) (ends m)) (Fin.ext ?_)) he
    show ((grid0.coords (prev m hO t)) 0).val = ((grid0.coords t) 0).val - 1
    rw [coord_val, coord_val t]
    rfl
  obtain ⟨h1, h3⟩ := weights_same m hO c _ _ hs
  refine ⟨fun e => h0 ((coord_val t).trans e), ?_, ?_⟩
  · exact congrArg (k0_pay1 (F := F)) h1
  · exact congrArg (k0_pay2 (F := F)) h3

end Cert.Experts

end
-- ==== Proof.ExpertValue.lean ====
/- What the experts' kernel computes of a block of rows, over the extended reals. -/
module

public import proofs.«01_k».proof.Proof.ExpertBlocks
public import Idealize.ShloMosaic.Lib.Pipeline.ValueKit

@[expose] public section

set_option maxRecDepth 16384

noncomputable section

namespace Cert.Experts

open Idealize.ShloMosaic Idealize.ShloMosaic.TcCoe Idealize.ShloMosaic.Tactic Idealize.SL.Sem
open Cert.Kernel2Ideal Cert.Kernel2Ideal.Gen

/-- The experts' activation of a gate and an up value, both clipped. -/
def gated (g u : EReal) : EReal :=
  (min (Ideal.ofBits .f32 0x40E00000#32) (max (Ideal.ofBits .f32 0xC0E00000#32) u) + 1)
    * min g (Ideal.ofBits .f32 0x40E00000#32)
    * Ideal.logistic (Ideal.ofBits .f32 0x3FD9DB23#32 * min g (Ideal.ofBits .f32 0x40E00000#32))

theorem first_half (acc : FVec Ideal S768x1024 .f32) (g u : FVec Ideal S768x512 .f32) (b : FVec Ideal S1x512 .f32)
    (w : FVec Ideal S512x1024 .bf16) (r : Fin 768) (n : Fin 1024) :
    (k0_pay10 acc g u b w (ix2 r n) : EReal)
      = (acc (ix2 r n) : EReal) + ∑ f : Fin 512, gated (g (ix2 r f)) ((u (ix2 r f) : EReal) + b (ix2 0 f)) * (w (ix2 f n) : EReal) := by
  pointwise [k0_pay10, gated]

theorem second_half (acc : FVec Ideal S768x1024 .f32) (g u : FVec Ideal S768x512 .f32)
    (w : FVec Ideal S512x1024 .bf16) (b : FVec Ideal S1x1x1x1024 .f32) (r : Fin 768) (n : Fin 1024) :
    (k0_pay13 acc g (Scalar.ofBits .f32 0x40E00000#32) u w b (ix2 r n) : EReal)
      = (acc (ix2 r n) : EReal) + ∑ f : Fin 512,
          (min (Ideal.ofBits .f32 0x40E00000#32) (u (ix2 r f) : EReal) + 1) * (g (ix2 r f) : EReal)
            * Ideal.logistic (Ideal.ofBits .f32 0x3FD9DB23#32 * (g (ix2 r f) : EReal)) * (w (ix2 f n) : EReal)
        + (b (ix4 0 0 0 n) : EReal) := by
  pointwise [k0_pay13]

/-- The eight chunks side by side are the rows. -/
theorem rows_joined (x0 : FVec Ideal S6144x128 .f32) (r : Fin 768) (k : Fin 1024) :
    (k0_pay5 (F := Ideal) (chunk x0 0) (chunk x0 1) (chunk x0 2) (chunk x0 3) (chunk x0 4) (chunk x0 5) (chunk x0 6) (chunk x0 7) (ix2 r k) : EReal)
      = (x0 (ix2 ⟨k.val / 128 + 8 * r.val, by omega⟩ ⟨k.val % 128, by omega⟩) : EReal) := by
  pointwise [k0_pay5, chunk]
  split_ifs <;> refine congrArg₂ (fun a c => (x0 (ix2 a c) : EReal)) (Fin.ext ?_) (Fin.ext ?_) <;> dsimp only <;> omega

/-- A block's rows times a window of 512 columns of the weights. -/
def upSum (x0 : FVec Ideal S6144x128 .f32) (w : FVec Ideal S1x1x1024x2048 .f32) (b : FVec Ideal S1x1x1x2048 .f32) (r : Fin 768) (n : Fin 2048) : EReal :=
  (∑ k : Fin 1024, (x0 (ix2 ⟨k.val / 128 + 8 * r.val, by omega⟩ ⟨k.val % 128, by omega⟩) : EReal) * (w (ix4 0 0 k n) : EReal)) + (b (ix4 0 0 0 n) : EReal)

theorem gate_first (x : FVec Ideal S768x1024 .bf16) (w : FVec Ideal S1024x512 .bf16) (b : FVec Ideal S1x1x1x512 .f32) (r : Fin 768) (f : Fin 512) :
    (k0_pay11 x w b (ix2 r f) : EReal)
      = min ((∑ k : Fin 1024, (x (ix2 r k) : EReal) * (w (ix2 k f) : EReal)) + (b (ix4 0 0 0 f) : EReal)) (Ideal.ofBits .f32 0x40E00000#32) := by
  pointwise [k0_pay11]

theorem up_second (x : FVec Ideal S768x1024 .bf16) (w : FVec Ideal S1024x512 .bf16) (b : FVec Ideal S1x1x1x512 .f32) (r : Fin 768) (f : Fin 512) :
    (k0_pay12 x w b (ix2 r f) : EReal)
      = max (Ideal.ofBits .f32 0xC0E00000#32) ((∑ k : Fin 1024, (x (ix2 r k) : EReal) * (w (ix2 k f) : EReal)) + (b (ix4 0 0 0 f) : EReal)) := by
  pointwise [k0_pay12]

theorem weights_cached (w : FVec Ideal S1x1x1024x2048 .f32) (k : Fin 1024) (n : Fin 2048) :
    (k0_pay1 (F := Ideal) w (ix2 k n) : EReal) = (w (ix4 0 0 k n) : EReal) := by
  pointwise [k0_pay1]

theorem down_cached (w : FVec Ideal S1x1x1024x1024 .f32) (k : Fin 1024) (n : Fin 1024) :
    (k0_pay2 (F := Ideal) w (ix2 k n) : EReal) = (w (ix4 0 0 k n) : EReal) := by
  pointwise [k0_pay2]

theorem gate_plain (c0 c1 c2 c3 c4 c5 c6 c7 : FVec Ideal S768x128 .f32) (w : FVec Ideal S1024x512 .bf16) (b : FVec Ideal S1x1x1x512 .f32) (r : Fin 768) (f : Fin 512) :
    (k0_pay7 (F := Ideal) c0 c1 c2 c3 c4 c5 c6 c7 w b (ix2 r f) : EReal)
      = (∑ k : Fin 1024, (k0_pay5 (F := Ideal) c0 c1 c2 c3 c4 c5 c6 c7 (ix2 r k) : EReal) * (w (ix2 k f) : EReal)) + (b (ix4 0 0 0 f) : EReal) := by
  unfold k0_pay7
  generalize k0_pay5 (F := Ideal) c0 c1 c2 c3 c4 c5 c6 c7 = x
  pointwise

theorem up_plain (c0 c1 c2 c3 c4 c5 c6 c7 : FVec Ideal S768x128 .f32) (w : FVec Ideal S1024x512 .bf16) (r : Fin 768) (f : Fin 512) :
    (k0_pay8 (F := Ideal) c0 c1 c2 c3 c4 c5 c6 c7 w (ix2 r f) : EReal)
      = ∑ k : Fin 1024, (k0_pay5 (F := Ideal) c0 c1 c2 c3 c4 c5 c6 c7 (ix2 r k) : EReal) * (w (ix2 k f) : EReal) := by
  unfold k0_pay8
  generalize k0_pay5 (F := Ideal) c0 c1 c2 c3 c4 c5 c6 c7 = x
  pointwise

theorem bias_plain (b : FVec Ideal S1x1x1x512 .f32) (f : Fin 512) : (k0_pay9 (F := Ideal) b (ix2 0 f) : EReal) = (b (ix4 0 0 0 f) : EReal) := by
  pointwise [k0_pay9]

theorem zero_start (r : Fin 768) (n : Fin 1024) : (k0_pay6 (F := Ideal) (ix2 r n) : EReal) = 0 := by
  pointwise [k0_pay6]

/-- Element `(r, n)` of a block's result: the gated sums over all 1024 hidden columns, and the bias. -/
theorem block_rows (w : FVec Ideal S1x1x1024x2048 .f32) (wd : FVec Ideal S1x1x1024x1024 .f32) (x0 : FVec Ideal S6144x128 .f32)
    (b : FVec Ideal S1x1x1x2048 .f32) (bd : FVec Ideal S1x1x1x1024 .f32) (r : Fin 768) (n : Fin 1024) :
    (blockRows (F := Ideal) (k0_pay1 (F := Ideal) w) (k0_pay2 (F := Ideal) wd) x0 b bd (ix2 r n) : EReal)
      = (∑ f : Fin 1024, gated (upSum x0 w b r ⟨f.val, by omega⟩) (upSum x0 w b r ⟨1024 + f.val, by omega⟩) * (wd (ix4 0 0 f n) : EReal))
        + (bd (ix4 0 0 0 n) : EReal) := by
  unfold blockRows
  have hd : ∀ (o : ℕ) (ho : o + 512 ≤ 1024) (f : Fin 512), (downRows (F := Ideal) (k0_pay2 (F := Ideal) wd) o ho (ix2 f n) : EReal) = (wd (ix4 0 0 ⟨o + f.val, by omega⟩ n) : EReal) :=
    fun o ho f => down_cached wd ⟨o + f.val, by omega⟩ n
  have hw : ∀ (o : ℕ) (ho : o + 512 ≤ 2048) (k : Fin 1024) (f : Fin 512), (upCols (F := Ideal) (k0_pay1 (F := Ideal) w) o ho (ix2 k f) : EReal) = (w (ix4 0 0 k ⟨o + f.val, by omega⟩) : EReal) :=
    fun o ho k f => weights_cached w k ⟨o + f.val, by omega⟩
  have hb : ∀ (o : ℕ) (ho : o + 512 ≤ 2048) (f : Fin 512), (biasCols (F := Ideal) b o ho (ix4 0 0 0 f) : EReal) = (b (ix4 0 0 0 ⟨o + f.val, by omega⟩) : EReal) :=
    fun o ho f => rfl
  rw [second_half, first_half, zero_start, zero_add, Fin.sum_univ_two_halves 512 512 rfl]
  refine congrArg (· + (bd (ix4 0 0 0 n) : EReal)) (congrArg₂ (· + ·) (Finset.sum_congr rfl fun f _ => ?_) (Finset.sum_congr rfl fun f _ => ?_))
  · rw [hd, gate_plain, up_plain, bias_plain, hb, hb]
    simp only [rows_joined, hw]
    simp only [Nat.zero_add]
    rfl
  · rw [hd, gate_first, up_second, hb, hb]
    simp only [rows_joined, hw]
    simp only [show ∀ i : ℕ, 1024 + (512 + i) = 1536 + i from fun i => by omega]
    rfl

end Cert.Experts

end
-- ==== Proof.ExpertRef.lean ====
/- The plain experts, read at an index over the extended reals. -/
module

public import proofs.«01_k».proof.Proof.ExpertValue
public import proofs.«01_k».proof.Proof.Gen.Reference2Ideal.Read
public import Idealize.ShloMosaic.Lib.Routing.Ops

@[expose] public section

set_option maxRecDepth 16384

noncomputable section

namespace Cert.Experts

open Idealize.ShloMosaic Idealize.ShloMosaic.TcCoe Idealize.ShloMosaic.Tactic Idealize.SL.Sem
open Cert.Reference2Ideal Cert.Reference2Ideal.Gen Cert.Reference2Ideal.Read

/-! ## One expert's weights, looked up -/

/-- Looking up whole weight matrices by a column of numbers. -/
abbrev slabs (n : ℕ) (wf : GatherDims.WF ⟨3, ![32, 1024, n]⟩ ⟨2, ![214, 1]⟩ ⟨3, ![214, 1024, n]⟩ [1, 2] [0] [] [0] [] 1 ![1, 1024, n]) :
    GatherDims ⟨3, ![32, 1024, n]⟩ ⟨2, ![214, 1]⟩ ⟨3, ![214, 1024, n]⟩ where
  offsetDims := [1, 2]
  collapsedSliceDims := [0]
  operandBatchingDims := []
  startIndicesBatchingDims := []
  startIndexMap := [0]
  indexVectorDim := 1
  sliceSizes := ![1, 1024, n]
  wf := wf

/-- Where the column names expert `e`, entry `(t, k, f)` is that of expert `e`. -/
theorem slab_at {α : Type} (n : ℕ) (wf : GatherDims.WF ⟨3, ![32, 1024, n]⟩ ⟨2, ![214, 1]⟩ ⟨3, ![214, 1024, n]⟩ [1, 2] [0] [] [0] [] 1 ![1, 1024, n])
    (w : (⟨3, ![32, 1024, n]⟩ : Shape).Idx → α) (named : IVec ⟨2, ![214, 1]⟩ 32) (t : Fin 214) (k : Fin 1024) (f : Fin n)
    (e : Fin 32) (he : named (ix2 t 0) = BitVec.ofNat 32 e.val) :
    Host.gather (slabs n wf) w named (ix3 t k f) = w (ix3 e k f) := by
  refine congrArg w (funext fun a => Fin.ext ?_)
  show (slabs n wf).start (ix3 t k f) named a + (slabs n wf).batchCoord (ix3 t k f) a + (slabs n wf).offCoord (ix3 t k f) a = (ix3 e k f a).val
  rw [GatherDims.batchCoord_eq_zero _ _ _ List.not_mem_nil, Nat.add_zero]
  match a with
  | ⟨0, _⟩ =>
    have hs : (slabs n wf).siIdx (ix3 t k f) ⟨0, Nat.one_pos⟩ = ix2 t 0 := by
      funext b
      match b with
      | ⟨0, _⟩ => rfl
      | ⟨1, _⟩ => rfl
    have ho : (slabs n wf).offCoord (ix3 t k f) ⟨0, Nat.succ_pos _⟩ = 0 :=
      GatherDims.offCoord_eq_zero _ _ _ fun h => ((GatherDims.mem_sKept _ _).mp h).1 (List.mem_singleton.mpr rfl)
    have hst : (slabs n wf).start (ix3 t k f) named ⟨0, Nat.succ_pos _⟩ = min (named (ix2 t 0)).toInt.toNat 31 := by
      rw [← hs]
      rfl
    have := e.isLt
    rw [hst, ho, he, Nat.add_zero, StableHlo.Predicate.toInt_ofNat_small _ (by omega)]
    show min ((e.val : ℤ)).toNat 31 = e.val
    omega
  | ⟨1, _⟩ => exact Nat.zero_add _
  | ⟨2, _⟩ => exact Nat.zero_add _

variable {F : FTy → Type} [FloatOps F]

/-- The numbers looked up by are the expert's. -/
theorem wrapped (x : IVec S32 32) (t : Fin 214) :
    val_main_v20 (F := F) x (ix2 t 0) = BitVec.ofNat 32 (expertOf (F := F) x t).val := by
  have hi : idx_main_v20 (ix2 t 0) = ix1 t := funext fun a => match a with | ⟨0, _⟩ => rfl
  rw [val_main_v20_apply, hi, val_main_v19_apply, val_main_v16_apply, expertOf_spec]
  generalize expertOf (F := F) x t = e
  rw [val_main_v15_apply, val_main_c_2_apply]
  have hn : IntOp.cmpi .slt (BitVec.ofNat 32 e.val) 0#32 = 0#1 := by
    revert e
    decide
  rw [hn]
  rfl

/-- The gate and up weights looked up. -/
theorem looked_up (x1 : IVec S32 32) (x2 : FVec F S4x32x1024x2048 .f32) (t : Fin 214) (k : Fin 1024) (n : Fin 2048) :
    val_main_v21 (F := F) x1 x2 (ix3 t k n) = x2 (ix4 0 (expertOf (F := F) x1 t) k n) := by
  refine (slab_at 2048 _ _ _ t k n (expertOf (F := F) x1 t) (wrapped x1 t)).trans ?_
  rw [val_main_v14_apply, val_main_v13_apply]
  generalize expertOf (F := F) x1 t = e
  refine congrArg x2 (funext fun a => Fin.ext ?_)
  have := k.isLt
  have := n.isLt
  have := e.isLt
  match a with
  | ⟨0, _⟩ => rfl
  | ⟨1, _⟩ => show ((e.val * 1024 + k.val) * 2048 + n.val) / 2097152 % 32 = e.val; omega
  | ⟨2, _⟩ => show ((e.val * 1024 + k.val) * 2048 + n.val) / 2048 % 1024 = k.val; omega
  | ⟨3, _⟩ => show ((e.val * 1024 + k.val) * 2048 + n.val) % 2048 = n.val; omega

/-- The down weights looked up. -/
theorem looked_down (x1 : IVec S32 32) (x4 : FVec F S4x32x1024x1024 .f32) (t : Fin 214) (k : Fin 1024) (n : Fin 1024) :
    val_main_v60 (F := F) x1 x4 (ix3 t k n) = x4 (ix4 0 (expertOf (F := F) x1 t) k n) := by
  refine (slab_at 1024 _ _ _ t k n (expertOf (F := F) x1 t) (wrapped x1 t)).trans ?_
  rw [val_main_v53_apply, val_main_v52_apply]
  generalize expertOf (F := F) x1 t = e
  refine congrArg x4 (funext fun a => Fin.ext ?_)
  have := k.isLt
  have := n.isLt
  have := e.isLt
  match a with
  | ⟨0, _⟩ => rfl
  | ⟨1, _⟩ => show ((e.val * 1024 + k.val) * 1024 + n.val) / 1048576 % 32 = e.val; omega
  | ⟨2, _⟩ => show ((e.val * 1024 + k.val) * 1024 + n.val) / 1024 % 1024 = k.val; omega
  | ⟨3, _⟩ => show ((e.val * 1024 + k.val) * 1024 + n.val) % 1024 = n.val; omega

/-- The gate and up biases looked up. -/
theorem looked_up_bias (x1 : IVec S32 32) (x3 : FVec F S4x32x2048 .f32) (t : Fin 214) (r : Fin 768) (n : Fin 2048) :
    val_main_v33 (F := F) x1 x3 (ix3 t r n) = x3 (ix3 0 (expertOf (F := F) x1 t) n) := by
  rw [val_main_v33_apply, val_main_v32_apply]
  have hi : idx_main_v32 (idx_main_v33 (ix3 t r n)) = ix2 t n := funext fun a => match a with | ⟨0, _⟩ => rfl | ⟨1, _⟩ => rfl
  rw [hi]
  refine (Routing.gather_row gather_S32x2048_S214x1_S214x2048_1_0_n_n_0_1_12048 rfl rfl rfl rfl rfl _ _ t n (expertOf (F := F) x1 t) (wrapped x1 t) (by decide)).trans ?_
  rw [val_main_v24_apply, val_main_v23_apply]
  generalize expertOf (F := F) x1 t = e
  refine congrArg x3 (funext fun a => Fin.ext ?_)
  have := n.isLt
  have := e.isLt
  match a with
  | ⟨0, _⟩ => rfl
  | ⟨1, _⟩ => show (e.val * 2048 + n.val) / 2048 % 32 = e.val; omega
  | ⟨2, _⟩ => show (e.val * 2048 + n.val) % 2048 = n.val; omega

/-- The down bias looked up. -/
theorem looked_down_bias (x1 : IVec S32 32) (x5 : FVec F S4x32x1024 .f32) (t : Fin 214) (r : Fin 768) (n : Fin 1024) :
    val_main_v72 (F := F) x1 x5 (ix3 t r n) = x5 (ix3 0 (expertOf (F := F) x1 t) n) := by
  rw [val_main_v72_apply, val_main_v71_apply]
  have hi : idx_main_v71 (idx_main_v72 (ix3 t r n)) = ix2 t n := funext fun a => match a with | ⟨0, _⟩ => rfl | ⟨1, _⟩ => rfl
  rw [hi]
  refine (Routing.gather_row gather_S32x1024_S214x1_S214x1024_1_0_n_n_0_1_11024 rfl rfl rfl rfl rfl _ _ t n (expertOf (F := F) x1 t) (wrapped x1 t) (by decide)).trans ?_
  rw [val_main_v63_apply, val_main_v62_apply]
  generalize expertOf (F := F) x1 t = e
  refine congrArg x5 (funext fun a => Fin.ext ?_)
  have := n.isLt
  have := e.isLt
  match a with
  | ⟨0, _⟩ => rfl
  | ⟨1, _⟩ => show (e.val * 1024 + n.val) / 1024 % 32 = e.val; omega
  | ⟨2, _⟩ => show (e.val * 1024 + n.val) % 1024 = n.val; omega

/-! ## The plain result -/

variable (x0 : FVec Ideal S164352x1024 .f32) (x1 : IVec S32 32) (x2 : FVec Ideal S4x32x1024x2048 .f32)
  (x3 : FVec Ideal S4x32x2048 .f32) (x4 : FVec Ideal S4x32x1024x1024 .f32) (x5 : FVec Ideal S4x32x1024 .f32)

/-- The gate or up value of row `r` of block `t` at column `n`. -/
def plainUp (t : Fin 214) (r : Fin 768) (n : Fin 2048) : EReal :=
  (∑ k : Fin 1024, (x0 (ix2 ⟨768 * t.val + r.val, by omega⟩ k) : EReal) * (x2 (ix4 0 (expertOf (F := Ideal) x1 t) k n) : EReal))
    + (x3 (ix3 0 (expertOf (F := Ideal) x1 t) n) : EReal)

theorem plain_up (t : Fin 214) (r : Fin 768) (n : Fin 2048) :
    (val_main_v34 (F := Ideal) x0 x1 x2 x3 (ix3 t r n) : EReal) = plainUp x0 x1 x2 x3 t r n := by
  rw [val_main_v34_apply, val_main_v22_apply, looked_up_bias]
  refine congrArg (· + (x3 (ix3 0 (expertOf (F := Ideal) x1 t) n) : EReal)) (Finset.sum_congr rfl fun k _ => congrArg₂ (· * ·) ?_ ?_)
  · rw [val_main_v12_apply]
    refine congrArg x0 (funext fun a => Fin.ext ?_)
    have := k.isLt
    match a with
    | ⟨0, _⟩ => show ((t.val * 768 + r.val) * 1024 + k.val) / 1024 = 768 * t.val + r.val; omega
    | ⟨1, _⟩ => show ((t.val * 768 + r.val) * 1024 + k.val) % 1024 = k.val; omega
  · have hi : ridx_main_v22 (ix3 t r n) k = ix3 t k n := funext fun a => match a with | ⟨0, _⟩ => rfl | ⟨1, _⟩ => rfl | ⟨2, _⟩ => rfl
    rw [hi, looked_up]

/-- The activation of row `r` of block `t` at hidden column `f`. -/
theorem plain_gated (t : Fin 214) (r : Fin 768) (f : Fin 1024) :
    (val_main_v51 (F := Ideal) x0 x1 x2 x3 (ix3 t r f) : EReal)
      = gated (plainUp x0 x1 x2 x3 t r ⟨f.val, by omega⟩) (plainUp x0 x1 x2 x3 t r ⟨1024 + f.val, by omega⟩) := by
  have hg : idx_main_v35 (ix3 t r f) = ix3 t r ⟨f.val, by omega⟩ := funext fun a => match a with | ⟨0, _⟩ => rfl | ⟨1, _⟩ => rfl | ⟨2, _⟩ => rfl
  have hu : idx_main_v36 (ix3 t r f) = ix3 t r ⟨1024 + f.val, by omega⟩ := funext fun a => match a with | ⟨0, _⟩ => rfl | ⟨1, _⟩ => rfl | ⟨2, _⟩ => rfl
  rw [val_main_v51_apply, val_main_v50_apply, val_main_v49_apply, val_main_cst_11_apply, val_main_v48_apply, val_main_v47_apply, val_main_cst_10_apply,
    val_main_v46_apply, val_main_v45_apply, val_main_v44_apply, val_main_v43_apply, val_main_cst_9_apply, val_main_v42_apply, val_main_v41_apply,
    val_main_v40_apply, val_main_cst_8_apply, val_main_v39_apply, val_main_call0_v4_apply, val_main_call0_v3_apply, val_main_cst_7_apply,
    val_main_call0_v2_apply, val_main_call0_v1_apply, val_main_call0_v0_apply, val_main_cst_6_apply, val_main_v38_apply, val_main_v37_apply,
    val_main_cst_apply, val_main_v35_apply, val_main_v36_apply, hg, hu, plain_up, plain_up]
  generalize plainUp x0 x1 x2 x3 t r ⟨f.val, by omega⟩ = g
  generalize plainUp x0 x1 x2 x3 t r ⟨1024 + f.val, by omega⟩ = u
  have h1 : (1 : EReal) = Ideal.ofBits .f32 0x3F800000#32 := by pointwise
  unfold gated Ideal.logistic
  rw [h1]
  rfl

/-- Row `r`, column `n` of block `t`, before the unused blocks are cleared. -/
theorem plain_rows (t : Fin 214) (r : Fin 768) (n : Fin 1024) :
    (val_main_v73 (F := Ideal) x0 x1 x2 x3 x4 x5 (ix3 t r n) : EReal)
      = (∑ f : Fin 1024, gated (plainUp x0 x1 x2 x3 t r ⟨f.val, by omega⟩) (plainUp x0 x1 x2 x3 t r ⟨1024 + f.val, by omega⟩)
          * (x4 (ix4 0 (expertOf (F := Ideal) x1 t) f n) : EReal)) + (x5 (ix3 0 (expertOf (F := Ideal) x1 t) n) : EReal) := by
  rw [val_main_v73_apply, val_main_v61_apply, looked_down_bias]
  refine congrArg (· + (x5 (ix3 0 (expertOf (F := Ideal) x1 t) n) : EReal)) (Finset.sum_congr rfl fun f _ => congrArg₂ (· * ·) ?_ ?_)
  · have hi : lidx_main_v61 (ix3 t r n) f = ix3 t r f := funext fun a => match a with | ⟨0, _⟩ => rfl | ⟨1, _⟩ => rfl | ⟨2, _⟩ => rfl
    rw [hi, plain_gated]
  · have hi : ridx_main_v61 (ix3 t r n) f = ix3 t f n := funext fun a => match a with | ⟨0, _⟩ => rfl | ⟨1, _⟩ => rfl | ⟨2, _⟩ => rfl
    rw [hi, looked_down]

/-- The blocks that hold rows. -/
theorem plain_used (h : 768 ≤ (x1 (ix1 (31 : Fin 32))).toInt) (t : Fin 214) :
    val_main_v79 (F := Ideal) x1 (ix1 t) = if t.val < usedOf x1 then 1#1 else 0#1 := by
  rw [val_main_v79_apply, val_main_v74_apply, val_main_v78_apply, used_word x1 h]
  show IntOp.cmpi .slt (BitVec.ofNat 32 t.val) (BitVec.ofNat 32 (usedOf x1)) = _
  have h2 := (used_pos x1 h).2
  have := t.isLt
  show BitVec.ofBool ((BitVec.ofNat 32 t.val).slt (BitVec.ofNat 32 (usedOf x1))) = _
  rw [BitVec.slt, StableHlo.Predicate.toInt_ofNat_small _ (by omega), StableHlo.Predicate.toInt_ofNat_small _ h2]
  by_cases hl : t.val < usedOf x1
  · rw [if_pos hl, decide_eq_true (by omega)]
    rfl
  · rw [if_neg hl, decide_eq_false (by omega)]
    rfl

/-- Row `r`, chunk `s`, lane `l` of block `t` of the result. -/
theorem plain_result (h : 768 ≤ (x1 (ix1 (31 : Fin 32))).toInt) (t : Fin 214) (r : Fin 768) (s : Fin 8) (l : Fin 128) :
    (val_main_v82 (F := Ideal) x0 x1 x2 x3 x4 x5 (ix2 ⟨6144 * t.val + (8 * r.val + s.val), by omega⟩ l) : EReal)
      = if t.val < usedOf x1 then val_main_v73 (F := Ideal) x0 x1 x2 x3 x4 x5 (ix3 t r ⟨128 * s.val + l.val, by omega⟩) else 0 := by
  have hi : idx_main_v82 (ix2 ⟨6144 * t.val + (8 * r.val + s.val), by omega⟩ l) = ix3 t r ⟨128 * s.val + l.val, by omega⟩ :=
    funext fun a => Fin.ext (by
      have := l.isLt
      have := s.isLt
      have := r.isLt
      match a with
      | ⟨0, _⟩ => show ((6144 * t.val + (8 * r.val + s.val)) * 128 + l.val) / 786432 = t.val; omega
      | ⟨1, _⟩ => show ((6144 * t.val + (8 * r.val + s.val)) * 128 + l.val) / 1024 % 768 = r.val; omega
      | ⟨2, _⟩ => show ((6144 * t.val + (8 * r.val + s.val)) * 128 + l.val) % 1024 = 128 * s.val + l.val; omega)
  have hc : idx_main_v80 (idx_main_call2_v1 (ix3 t r ⟨128 * s.val + l.val, by omega⟩)) = ix1 t := funext fun a => match a with | ⟨0, _⟩ => rfl
  rw [val_main_v82_apply, hi, val_main_v81_apply, val_main_call2_v1_apply, val_main_v80_apply, hc, plain_used x1 h, val_main_call2_v2_apply,
    val_main_call2_v0_apply, val_main_cst_17_apply]
  have h0 : (FloatOps.ofBits .f32 0x00000000#32 : Ideal .f32) = (0 : EReal) := by pointwise
  rw [h0]
  by_cases hl : t.val < usedOf x1
  · rw [if_pos hl, if_pos hl]
    rfl
  · rw [if_neg hl, if_neg hl]
    rfl

end Cert.Experts

end
-- ==== Proof.ExpertFinal.lean ====
/- The array the experts' call leaves is the plain experts' one. -/
module

public import proofs.«01_k».proof.Proof.ExpertRef

@[expose] public section

set_option maxRecDepth 16384

noncomputable section

namespace Cert.Experts

open Idealize.ShloMosaic Idealize.ShloMosaic.TcCoe Idealize.ShloMosaic.Tactic Idealize.SL.Sem
open Cert.Kernel2Ideal Cert.Kernel2Ideal.Gen
open Cert.Reference2Ideal.Read (val_main_v73 val_main_v82)

variable (m : (ℓ : Loc nD τ sig) → Buf (Elt Ideal) ℓ) (c : Dev nD)

abbrev rowsIn : FVec Ideal S164352x1024 .f32 := m ((c : Thread nD τ).loc main_arg0)
abbrev upIn : FVec Ideal S4x32x1024x2048 .f32 := m ((c : Thread nD τ).loc main_arg2)
abbrev upBiasIn : FVec Ideal S4x32x2048 .f32 := m ((c : Thread nD τ).loc main_arg3)
abbrev downIn : FVec Ideal S4x32x1024x1024 .f32 := m ((c : Thread nD τ).loc main_arg4)
abbrev downBiasIn : FVec Ideal S4x32x1024 .f32 := m ((c : Thread nD τ).loc main_arg5)

/-- The plain experts of the call's arguments. -/
def expertResult : FVec Ideal S1314816x128 .f32 :=
  val_main_v82 (F := Ideal) (rowsIn m c) (ends m) (upIn m c) (upBiasIn m c) (downIn m c) (downBiasIn m c)

theorem rows_flat (x : FVec Ideal S164352x1024 .f32) (a : Fin 1314816) (l : Fin 128) (r : Fin 164352) (k : Fin 1024)
    (h : r.val * 1024 + k.val = a.val * 128 + l.val) :
    shapeCast S1314816x128 x shapeCasts_S164352x1024_S1314816x128 (ix2 a l) = x (ix2 r k) := by
  refine shapeCast_apply x _ _ _ ?_
  rw [Shape.rowMajor_val_two, Shape.rowMajor_val_two]
  exact h

theorem up_flat (x : FVec Ideal S4x32x2048 .f32) (e : Fin 32) (n : Fin 2048) :
    shapeCast S4x32x1x2048 x shapeCasts_S4x32x2048_S4x32x1x2048 (ix4 0 e 0 n) = x (ix3 0 e n) := by
  refine shapeCast_apply x _ _ _ ?_
  rw [Shape.rowMajor_val_three, Shape.rowMajor_val_four]
  show (0 * 32 + e.val) * 2048 + n.val = ((0 * 32 + e.val) * 1 + 0) * 2048 + n.val
  omega

theorem down_flat (x : FVec Ideal S4x32x1024 .f32) (e : Fin 32) (n : Fin 1024) :
    shapeCast S4x32x1x1024 x shapeCasts_S4x32x1024_S4x32x1x1024 (ix4 0 e 0 n) = x (ix3 0 e n) := by
  refine shapeCast_apply x _ _ _ ?_
  rw [Shape.rowMajor_val_three, Shape.rowMajor_val_four]
  show (0 * 32 + e.val) * 1024 + n.val = ((0 * 32 + e.val) * 1 + 0) * 1024 + n.val
  omega

/-- The branch taken is that of the blocks that hold rows. -/
theorem cond_used (hx : SomeUsed m) (i : grid0.Coords) :
    k0_cond2 i (BitVec.ofNat 32 (usedOf (ends m))) = 1#1 ↔ (i 0).val < usedOf (ends m) := by
  have h2 := (used_pos _ hx).2
  have h1 : (i 0).val < 214 := (i 0).isLt
  have hs : Scalar.cmpi .slt (BitVec.ofNat 32 (i 0).val) (BitVec.ofNat 32 (usedOf (ends m))) = BitVec.ofBool (decide ((i 0).val < usedOf (ends m))) := by
    show BitVec.ofBool ((BitVec.ofNat 32 (i 0).val).slt (BitVec.ofNat 32 (usedOf (ends m)))) = _
    rw [BitVec.slt, StableHlo.Predicate.toInt_ofNat_small _ (by omega), StableHlo.Predicate.toInt_ofNat_small _ h2]
    exact congrArg BitVec.ofBool (decide_eq_decide.mpr (by omega))
  unfold k0_cond2
  dsimp only
  rw [hs]
  by_cases hl : (i 0).val < usedOf (ends m)
  · rw [decide_eq_true hl]
    exact ⟨fun _ => hl, fun _ => rfl⟩
  · rw [decide_eq_false hl]
    exact ⟨fun h => absurd h (by decide), fun h => absurd h hl⟩

/-- The row block and column of the experts of point `t`. -/
abbrev pointOf {hO : Fits m} (t : Fin (call m hO).N) : Fin 214 := ⟨t.val, lt_of_eq_of_lt (coord_val t).symm ((grid0.coords t) 0).isLt⟩

theorem expert_point {hO : Fits m} (t : Fin (call m hO).N) : expertAt m (grid0.coords t) = expertOf (F := Ideal) (ends m) (pointOf m t) :=
  congrArg (expertOf (F := Ideal) (ends m)) (Fin.ext (coord_val t))

/-- A block's gate and up values are the plain ones. -/
theorem up_point (hO : Fits m) (hx : SomeUsed m) (t : Fin (call m hO).N) (hl : t.val < usedOf (ends m)) (r : Fin 768) (n : Fin 2048) :
    upSum (blockAt m hO c 0 t) (blockAt m hO c 1 t) (blockAt m hO c 2 t) r n
      = plainUp (rowsIn m c) (ends m) (upIn m c) (upBiasIn m c) (pointOf m t) r n := by
  obtain ⟨e22, e23, -⟩ := arrays_read m c
  unfold upSum plainUp
  refine congrArg₂ (· + ·) (Finset.sum_congr rfl fun k _ => congrArg₂ (· * ·) ?_ ?_) ?_
  · refine (rows_block m hO hx c t _).trans ?_
    rw [e22]
    refine rows_flat _ _ _ _ k ?_
    have := k.isLt
    show (768 * t.val + r.val) * 1024 + k.val = (min t.val (usedOf (ends m) - 1) * 6144 + (k.val / 128 + 8 * r.val)) * 128 + k.val % 128
    rw [Nat.min_eq_left (by omega)]
    omega
  · refine (up_block m hO c t _).trans ?_
    rw [entry_arg m c main_arg2 (by decide), expert_point]
    rfl
  · refine (upBias_block m hO c t _).trans ?_
    rw [e23, expert_point]
    exact up_flat _ _ n

/-- A block that holds rows. -/
theorem rows_point (hO : Fits m) (hx : SomeUsed m) (t : Fin (call m hO).N) (hl : t.val < usedOf (ends m)) (r : Fin 768) (n : Fin 1024) :
    (blockRows (F := Ideal) (k0_pay1 (F := Ideal) (blockAt m hO c 1 t)) (k0_pay2 (F := Ideal) (blockAt m hO c 3 t)) (blockAt m hO c 0 t) (blockAt m hO c 2 t) (blockAt m hO c 4 t) (ix2 r n) : EReal)
      = (val_main_v73 (F := Ideal) (rowsIn m c) (ends m) (upIn m c) (upBiasIn m c) (downIn m c) (downBiasIn m c) (ix3 (pointOf m t) r n) : EReal) := by
  obtain ⟨-, -, e24⟩ := arrays_read m c
  rw [plain_rows]
  refine (block_rows _ _ _ _ _ r n).trans ?_
  refine congrArg₂ (· + ·) (Finset.sum_congr rfl fun f _ => congrArg₂ (· * ·) (congrArg₂ gated ?_ ?_) ?_) ?_
  · exact up_point m c hO hx t hl r _
  · exact up_point m c hO hx t hl r _
  · refine (down_block m hO c t _).trans ?_
    rw [entry_arg m c main_arg4 (by decide), expert_point]
    rfl
  · refine (downBias_block m hO c t _).trans ?_
    rw [e24, expert_point]
    exact down_flat _ _ n

/-- Element `y` of what point `t` writes. -/
theorem out_point (hO : Fits m) (hx : SomeUsed m) (t : Fin (call m hO).N) (y : S6144x128.Idx) :
    (outAt m hO c t y : EReal)
      = (expertResult m c (ix2 ⟨6144 * t.val + (y 0).val, by
          have h1 : t.val < 214 := (pointOf m t).isLt
          have h2 : (y 0).val < 6144 := (y 0).isLt
          omega⟩ ⟨(y 1).val, (y 1).isLt⟩) : EReal) := by
  have h0 : (y 0).val < 6144 := (y 0).isLt
  have h1 : (y 1).val < 128 := (y 1).isLt
  have hp := plain_result (rowsIn m c) (ends m) (upIn m c) (upBiasIn m c) (downIn m c) (downBiasIn m c) hx (pointOf m t)
    ⟨(y 0).val / 8, by omega⟩ ⟨(y 0).val % 8, by omega⟩ ⟨(y 1).val, h1⟩
  have hi : (ix2 (⟨6144 * (pointOf m t).val + (8 * ((y 0).val / 8) + (y 0).val % 8), by have h : t.val < 214 := (pointOf m t).isLt; show 6144 * t.val + (8 * ((y 0).val / 8) + (y 0).val % 8) < 1314816; omega⟩ : Fin 1314816) (⟨(y 1).val, h1⟩ : Fin 128))
      = ix2 ⟨6144 * t.val + (y 0).val, by have h : t.val < 214 := (pointOf m t).isLt; omega⟩ ⟨(y 1).val, h1⟩ :=
    congrArg (fun a => ix2 a _) (Fin.ext (by show 6144 * t.val + (8 * ((y 0).val / 8) + (y 0).val % 8) = 6144 * t.val + (y 0).val; omega))
  unfold expertResult
  refine Eq.trans ?_ ((hp.symm).trans (congrArg _ hi))
  unfold outAt outBlock
  rw [word_used m hx c]
  by_cases hl : t.val < usedOf (ends m)
  · rw [if_pos ((cond_used m hx _).mpr (by rw [coord_val]; exact hl)), if_pos hl]
    refine (rows_point m c hO hx t hl ⟨(y 0).val / 8, by omega⟩ ⟨(y 0).val % 8 * 128 + (y 1).val, by omega⟩).trans ?_
    refine congrArg (val_main_v73 (F := Ideal) _ _ _ _ _ _) (congrArg (ix3 _ _) (Fin.ext ?_))
    show (y 0).val % 8 * 128 + (y 1).val = 128 * ((y 0).val % 8) + (y 1).val
    omega
  · rw [if_neg (fun h => hl (by have := (cond_used m hx _).mp h; rwa [coord_val] at this)), if_neg hl]
    pointwise [k0_pay4]

/-- Where point `t`'s block lies in the result. -/
theorem out_emb (hO : Fits m) (t : Fin (call m hO).N) (y : S6144x128.Idx) : ((((call m hO).win 5).blk t).view.emb y : S1314816x128.Idx)
    = ix2 ⟨6144 * t.val + (y 0).val, by
        have h1 : t.val < 214 := (pointOf m t).isLt
        have h2 : (y 0).val < 6144 := (y 0).isLt
        omega⟩ ⟨(y 1).val, (y 1).isLt⟩ := by
  refine funext fun a => Fin.ext ?_
  show cc0_transform_5 (grid0.coords t) a * S6144x128.size a + 1 * (y a).val = _
  have h1 : t.val < 214 := (pointOf m t).isLt
  have e : (BitVec.ofNat 32 ((grid0.coords t) 0).val).toNat = t.val := by rw [coord_val, BitVec.toNat_ofNat]; omega
  match a with
  | ⟨0, _⟩ =>
    show (BitVec.ofNat 32 ((grid0.coords t) 0).val).toNat * 6144 + 1 * (y 0).val = 6144 * t.val + (y 0).val
    rw [e]
    omega
  | ⟨1, _⟩ => show 0 * 128 + 1 * (y 1).val = (y 1).val; omega

/-- The grid has a point for every block of the result. -/
theorem point_lt (hO : Fits m) (i : S1314816x128.Idx) : (i 0).val / 6144 < (call m hO).N := by
  have hi : (i 0).val < 1314816 := (i 0).isLt
  exact lt_of_lt_of_eq (show (i 0).val / 6144 < 214 by omega) (by decide : 214 = grid0.N)

theorem out_flushed (hO : Fits m) (t : Fin (call m hO).N) : ((call m hO).win 5).flush t = true := flush_out _ _

theorem in_block (hO : Fits m) (i : S1314816x128.Idx) (t : Fin (call m hO).N) (y : S6144x128.Idx) (h : ((((call m hO).win 5).blk t).view.emb y : S1314816x128.Idx) = i) :
   i ∈ (((call m hO).win 5).blk t).view.set := by
  rw [← h]
  exact (((call m hO).win 5).blk t).view.emb_mem_set y

/-- The place in its block of an element. -/
theorem placed (hO : Fits m) (i : S1314816x128.Idx) : ((((call m hO).win 5).blk ⟨(i 0).val / 6144, point_lt m hO i⟩).view.emb
      (ix2 (⟨(i 0).val % 6144, by omega⟩ : Fin 6144) (⟨(i 1).val, (i 1).isLt⟩ : Fin 128) : S6144x128.Idx) : S1314816x128.Idx) = i := by
  refine (out_emb m hO _ _).trans (funext fun a => Fin.ext ?_)
  match a with
  | ⟨0, _⟩ => show 6144 * ((i 0).val / 6144) + (i 0).val % 6144 = (i 0).val; omega
  | ⟨1, _⟩ => rfl

/-- Every element lies in some point's block. -/
theorem out_cover (hO : Fits m) (i : S1314816x128.Idx) :
    ∃ t : Fin (call m hO).N, ((call m hO).win 5).flush t = true ∧ i ∈ (((call m hO).win 5).blk t).view.set :=
  ⟨⟨(i 0).val / 6144, point_lt m hO i⟩, out_flushed m hO _, in_block m hO i _ _ (placed m hO i)⟩

/-- The array the call leaves. -/
theorem expert_final (hO : Fits m) (hx : SomeUsed m) : (data m hO 0 c).arrAt 5 (call m hO).N = expertResult m c := by
  refine (data m hO 0 c).arrAt_eq_of_emb 5 (expertResult m c) (fun t _ => fun (y : S6144x128.Idx) => ?_) ?_
  · refine Eq.trans ?_ ((out_point m c hO hx t y).trans (congrArg (expertResult m c) (out_emb m hO t y).symm))
    exact congrFun (left_5 m hO c t) y
  · exact out_cover m hO

end Cert.Experts

end
-- ==== Proof.ConvIn.lean ====
/-
  The convolution's input projection, a block of 512 rows at a time: the rows are scaled and shifted, and each of four
  rounds multiplies them by three panels of 256 columns of the weights, one panel for each of the gates and one for the
  values.  Every point of the grid leaves its rows of the reference's two arrays.
-/
module

public import proofs.«01_k».proof.Proof.Gen.Kernel3Ideal.Value
public import proofs.«01_k».proof.Proof.Gen.Reference3Ideal.Read
public import Idealize.ShloMosaic.Lib.Pointwise
public import Idealize.ShloMosaic.Lib.StableHlo.ReadAt
public import Idealize.ShloMosaic.Lib.Pipeline.ValueKit

@[expose] public section

set_option maxRecDepth 16384

noncomputable section

namespace Cert.ConvIn

open Idealize.ShloMosaic Idealize.ShloMosaic.TcCoe Idealize.SL.Sem Cert.Kernel3Ideal Cert.Kernel3Ideal.Gen
open Idealize.ShloMosaic.Pipeline (Dat)

section Text

variable {F : FTy → Type} [FloatOps F]

theorem panel_inb (n : Fin 12) : ∀ a, (![0, 256 * n.val] : Fin 2 → Nat) a + S1024x256.size a ≤ S1024x3072.size a := by
  revert n; decide

/-- Panel `n` of the weights: columns `256 n … 256 n + 255`. -/
def panel (w : Vec F S1024x3072 .bf16) (n : Fin 12) : FVec F S1024x256 .bf16 :=
  shapeCast S1024x256 (View.ld w (Rect.unit (s := S1024x3072) ![0, 256 * n.val] S1024x256.size (panel_inb n))) shapeCasts_S1024x256_S1024x256

/-- The modulated rows of a block. -/
def modulated (x : Vec F S1x512x1024 .f32) (a : Vec F S1x8x1024 .f32) : FVec F S512x1024 .bf16 := k0_pay4 (View.ld a r0_0) (View.ld x r0_1)

/-- Rows times a panel. -/
def times (h : FVec F S512x1024 .bf16) (p : FVec F S1024x256 .bf16) : FVec F S512x256 .f32 :=
  matmul dot_S512x1024_S1024x256_S512x256_1_0_0_1_n_n none h p (constant S512x256 .f32 0x00000000#32)

/-- What a round writes to a result: its 256 columns, cast. -/
def written (x : FVec F S512x256 .f32) : FVec F S1x512x256 .bf16 :=
  shapeCast S1x512x256 (truncf .bf16 x bitsLt_bf16_f32) shapeCasts_S512x256_S1x512x256

/-- Round `n` of the output gate. -/
def gateRound (h : FVec F S512x1024 .bf16) (w : Vec F S1024x3072 .bf16) (n : Fin 4) : FVec F S1x512x256 .bf16 :=
  written (times h (panel w ⟨n.val, by omega⟩))

/-- Round `n` of the gated values. -/
def valueRound (h : FVec F S512x1024 .bf16) (w : Vec F S1024x3072 .bf16) (n : Fin 4) : FVec F S1x512x256 .bf16 :=
  written (mulf (times h (panel w ⟨4 + n.val, by omega⟩)) (times h (panel w ⟨8 + n.val, by omega⟩)))

theorem gates_eq (x0 : Vec F S1x512x1024 .f32) (x1 : Vec F S1x8x1024 .f32) (x2 : Vec F S1024x3072 .bf16) :
    out0_3 x0 x1 x2 = View.canon [⟨r0_17, gateRound (modulated x0 x1) x2 3⟩, ⟨r0_13, gateRound (modulated x0 x1) x2 2⟩,
      ⟨r0_9, gateRound (modulated x0 x1) x2 1⟩, ⟨r0_5, gateRound (modulated x0 x1) x2 0⟩] := rfl

theorem values_eq (x0 : Vec F S1x512x1024 .f32) (x1 : Vec F S1x8x1024 .f32) (x2 : Vec F S1024x3072 .bf16) :
    out0_4 x0 x1 x2 = View.canon [⟨r0_17, valueRound (modulated x0 x1) x2 3⟩, ⟨r0_13, valueRound (modulated x0 x1) x2 2⟩,
      ⟨r0_9, valueRound (modulated x0 x1) x2 1⟩, ⟨r0_5, valueRound (modulated x0 x1) x2 0⟩] := rfl

end Text

/-! ## Read at an index -/

theorem panel_apply (w : Vec Ideal S1024x3072 .bf16) (n : Fin 12) (k : Fin 1024) (l : Fin 256) :
    (panel w n (ix2 k l) : EReal) = w (ix2 k ⟨256 * n.val + l.val, by omega⟩) := by
  have e : ∀ y : Vec Ideal S1024x256 .bf16, (shapeCast S1024x256 y shapeCasts_S1024x256_S1024x256 (ix2 k l) : EReal) = y (ix2 k l) := by
    intro y; pointwise
  refine (e _).trans (congrArg w (funext fun a => Fin.ext ?_))
  match a with
  | ⟨0, _⟩ => show 0 + 1 * k.val = k.val; omega
  | ⟨1, _⟩ => show 256 * n.val + 1 * l.val = 256 * n.val + l.val; omega

theorem modulated_apply (x : Vec Ideal S1x512x1024 .f32) (a : Vec Ideal S1x8x1024 .f32) (r : Fin 512) (k : Fin 1024) :
    (modulated x a (ix2 r k) : EReal)
      = (x (ix3 0 r k) : EReal) * (Ideal.ofBits .f32 0x3F800000#32 + a (ix3 0 1 k)) + a (ix3 0 0 k) := by
  have e : ∀ (u : Vec Ideal S1x8x1024 .f32) (v : Vec Ideal S1x512x1024 .f32), (k0_pay4 u v (ix2 r k) : EReal)
      = (v (ix3 0 r k) : EReal) * (Ideal.ofBits .f32 0x3F800000#32 + u (ix3 0 1 k)) + u (ix3 0 0 k) := by
    intro u v; pointwise [k0_pay4]
  have ea : ∀ j : Fin 8, View.ld a r0_0 (ix3 0 j k) = a (ix3 0 j k) := fun j => congrArg a (funext fun d => Fin.ext (by
    match d with
    | ⟨0, _⟩ => rfl
    | ⟨1, _⟩ => show 0 + 1 * j.val = j.val; omega
    | ⟨2, _⟩ => show 0 + 1 * k.val = k.val; omega))
  have ex : View.ld x r0_1 (ix3 0 r k) = x (ix3 0 r k) := congrArg x (funext fun d => Fin.ext (by
    match d with
    | ⟨0, _⟩ => rfl
    | ⟨1, _⟩ => show 0 + 1 * r.val = r.val; omega
    | ⟨2, _⟩ => show 0 + 1 * k.val = k.val; omega))
  refine (e _ _).trans ?_
  rw [ea, ea, ex]

theorem times_apply (h : FVec Ideal S512x1024 .bf16) (p : FVec Ideal S1024x256 .bf16) (r : Fin 512) (l : Fin 256) :
    (times h p (ix2 r l) : EReal) = ∑ k : Fin 1024, (h (ix2 r k) : EReal) * p (ix2 k l) := by
  pointwise [times]

theorem written_apply (x : FVec Ideal S512x256 .f32) (r : Fin 512) (l : Fin 256) : (written x (ix3 0 r l) : EReal) = x (ix2 r l) := by
  pointwise [written]

theorem mul_apply (a b : FVec Ideal S512x256 .f32) (i : S512x256.Idx) : (mulf a b i : EReal) = (a i : EReal) * b i := by
  pointwise

/-! ## The arrays of the two programs -/

variable (m : (ℓ : Loc nD τ sig) → Buf (Elt Ideal) ℓ)

abbrev rowsIn (c : Dev nD) : FVec Ideal S8x4096x1024 .f32 := m ((c : Thread nD τ).loc main_arg0)
abbrev modsIn (c : Dev nD) : FVec Ideal S8x6144 .f32 := m ((c : Thread nD τ).loc main_arg1)
abbrev weightsIn (c : Dev nD) : FVec Ideal S1024x3072 .f32 := m ((c : Thread nD τ).loc main_arg2)

/-- Column `j` of the projection of a modulated row. -/
def entry (x : FVec Ideal S8x4096x1024 .f32) (a : FVec Ideal S8x6144 .f32) (w : FVec Ideal S1024x3072 .f32) (b : Fin 8) (r : Fin 4096) (j : Fin 3072) : EReal :=
  ∑ k : Fin 1024, ((x (ix3 b r k) : EReal) * (Ideal.ofBits .f32 0x3F800000#32 + a (ix2 b ⟨1024 + k.val, by omega⟩))
    + a (ix2 b ⟨k.val, by omega⟩)) * w (ix2 k j)

/-- The modulation vectors as the host lays them out: six rows and two of zeros. -/
def laidMods (a : FVec Ideal S8x6144 .f32) : FVec Ideal S8x8x1024 .f32 :=
  pad S8x8x1024 ![0, 0, 0] ![0, 2, 0] ![0, 0, 0] (shapeCast S8x6x1024 a shapeCasts_S8x6144_S8x6x1024) (sitofp .f32 (constantI S_ 32 0#32))
    pads_S8x6x1024_S8x8x1024_000_020_000 h_S_

theorem V_mods (c : Dev nD) : V m c main_v1 = laidMods (modsIn m c) := by
  simp only [V, hostOps0, hostOps0_1, hostOps0_2, List.flatten_cons, List.flatten_nil, List.append_nil, List.cons_append, List.nil_append]
  after_results; rfl

theorem V_weights (c : Dev nD) : V m c main_v2 = (truncf .bf16 (weightsIn m c) bitsLt_bf16_f32 : FVec Ideal S1024x3072 .bf16) := by
  simp only [V, hostOps0, hostOps0_1, hostOps0_2, List.flatten_cons, List.flatten_nil, List.append_nil, List.cons_append, List.nil_append]
  after_results

theorem mods_apply (a : FVec Ideal S8x6144 .f32) (b : Fin 8) (j : Fin 2) (k : Fin 1024) :
    (laidMods a (ix3 b ⟨j.val, by omega⟩ k) : EReal) = a (ix2 b ⟨1024 * j.val + k.val, by omega⟩) := by
  pointwise [laidMods]
  rw [dif_pos (show j.val < 6 by omega)]
  exact congrArg (fun i => (a (ix2 b i) : EReal)) (Fin.ext (by dsimp only; omega))

theorem weights_apply (w : FVec Ideal S1024x3072 .f32) (k : Fin 1024) (j : Fin 3072) :
    ((truncf .bf16 w bitsLt_bf16_f32 : FVec Ideal S1024x3072 .bf16) (ix2 k j) : EReal) = w (ix2 k j) := by
  pointwise

theorem index_rows : ∀ t : Fin cfg0.N, win0_0.index t = ![t.val / 8, t.val % 8, 0] := by decide +kernel
theorem index_mods : ∀ t : Fin cfg0.N, win0_1.index t = ![t.val / 8, 0, 0] := by decide +kernel
theorem index_weights : ∀ t : Fin cfg0.N, win0_2.index t = ![0, 0] := by decide +kernel
theorem index_gates : ∀ t : Fin cfg0.N, win0_3.index t = ![t.val / 8, t.val % 8, 0] := by decide +kernel
theorem index_values : ∀ t : Fin cfg0.N, win0_4.index t = ![t.val / 8, t.val % 8, 0] := by decide +kernel

theorem point_lt (t : Fin cfg0.N) : t.val < 64 := lt_of_lt_of_eq t.isLt N_0

theorem rows_block (c : Dev nD) (t : Fin cfg0.N) (r : Fin 512) (k : Fin 1024) :
    (iblk m c 0 t (ix3 0 r k) : EReal) = rowsIn m c (ix3 ⟨t.val / 8, by have := point_lt t; omega⟩ ⟨t.val % 8 * 512 + r.val, by omega⟩ k) := by
  blk_ext [iblk, index_rows]

theorem mods_block (c : Dev nD) (t : Fin cfg0.N) (j : Fin 2) (k : Fin 1024) :
    (iblk m c 1 t (ix3 0 ⟨j.val, by omega⟩ k) : EReal)
      = modsIn m c (ix2 ⟨t.val / 8, by have := point_lt t; omega⟩ ⟨1024 * j.val + k.val, by omega⟩) := by
  refine Eq.trans ?_ (mods_apply (modsIn m c) _ j k)
  rw [← V_mods]
  blk_ext [iblk, index_mods]

theorem weights_block (c : Dev nD) (t : Fin cfg0.N) (k : Fin 1024) (j : Fin 3072) :
    (iblk m c 2 t (ix2 k j) : EReal) = weightsIn m c (ix2 k j) := by
  refine Eq.trans ?_ (weights_apply (weightsIn m c) k j)
  rw [← V_weights]
  blk_ext [iblk, index_weights]

theorem times_block (c : Dev nD) (t : Fin cfg0.N) (n : Fin 12) (r : Fin 512) (l : Fin 256) :
    (times (modulated (iblk m c 0 t) (iblk m c 1 t)) (panel (iblk m c 2 t) n) (ix2 r l) : EReal)
      = entry (rowsIn m c) (modsIn m c) (weightsIn m c) ⟨t.val / 8, by have := point_lt t; omega⟩ ⟨t.val % 8 * 512 + r.val, by omega⟩
          ⟨256 * n.val + l.val, by omega⟩ := by
  rw [times_apply, entry]
  refine Finset.sum_congr rfl fun k _ => ?_
  rw [modulated_apply, panel_apply, rows_block, weights_block]
  have e1 := mods_block m c t 1 k
  have e0 := mods_block m c t 0 k
  refine congrArg₂ (fun p q : EReal => (_ * (_ + p) + q) * _) e1 (e0.trans ?_)
  exact congrArg (fun i => (modsIn m c (ix2 _ i) : EReal)) (Fin.ext (by dsimp only; omega))

/-! ## The reference's two arrays -/

open Cert.Reference3Ideal.Read

theorem product_apply (x : FVec Ideal S8x4096x1024 .f32) (a : FVec Ideal S8x6144 .f32) (w : FVec Ideal S1024x3072 .f32) (b : Fin 8) (r : Fin 4096) (j : Fin 3072) :
    (val_main_v13 (F := Ideal) x a w (ix3 b r j) : EReal) = entry x a w b r j := by
  pointwise [val_main_v13, val_main_v12, val_main_v11, val_main_v10, val_main_v9, val_main_v8, val_main_v7, val_main_cst, val_main_v2, val_main_v1, val_main_v0, entry]

theorem gates_apply (x : FVec Ideal S8x4096x1024 .f32) (a : FVec Ideal S8x6144 .f32) (w : FVec Ideal S1024x3072 .f32) (b : Fin 8) (r : Fin 4096) (l : Fin 1024) :
    (val_main_v17 (F := Ideal) x a w (ix3 b r l) : EReal) = entry x a w b r ⟨l.val, by omega⟩ := by
  rw [← product_apply]
  pointwise [val_main_v17, val_main_v14]

theorem values_apply (x : FVec Ideal S8x4096x1024 .f32) (a : FVec Ideal S8x6144 .f32) (w : FVec Ideal S1024x3072 .f32) (b : Fin 8) (r : Fin 4096) (l : Fin 1024) :
    (val_main_v19 (F := Ideal) x a w (ix3 b r l) : EReal) = entry x a w b r ⟨1024 + l.val, by omega⟩ * entry x a w b r ⟨2048 + l.val, by omega⟩ := by
  rw [← product_apply, ← product_apply]
  pointwise [val_main_v19, val_main_v18, val_main_v15, val_main_v16]

abbrev gates (c : Dev nD) : FVec Ideal S8x4096x1024 .bf16 := val_main_v17 (F := Ideal) (rowsIn m c) (modsIn m c) (weightsIn m c)
abbrev gated (c : Dev nD) : FVec Ideal S8x4096x1024 .bf16 := val_main_v19 (F := Ideal) (rowsIn m c) (modsIn m c) (weightsIn m c)

theorem gateRound_apply (c : Dev nD) (t : Fin cfg0.N) (n : Fin 4) (r : Fin 512) (l : Fin 256) :
    (gateRound (modulated (iblk m c 0 t) (iblk m c 1 t)) (iblk m c 2 t) n (ix3 0 r l) : EReal)
      = gates m c (ix3 ⟨t.val / 8, by have := point_lt t; omega⟩ ⟨t.val % 8 * 512 + r.val, by omega⟩ ⟨256 * n.val + l.val, by omega⟩) := by
  rw [gateRound, written_apply, times_block]
  exact (gates_apply _ _ _ _ _ ⟨256 * n.val + l.val, by omega⟩).symm

theorem valueRound_apply (c : Dev nD) (t : Fin cfg0.N) (n : Fin 4) (r : Fin 512) (l : Fin 256) :
    (valueRound (modulated (iblk m c 0 t) (iblk m c 1 t)) (iblk m c 2 t) n (ix3 0 r l) : EReal)
      = gated m c (ix3 ⟨t.val / 8, by have := point_lt t; omega⟩ ⟨t.val % 8 * 512 + r.val, by omega⟩ ⟨256 * n.val + l.val, by omega⟩) := by
  rw [valueRound, written_apply, mul_apply, times_block, times_block]
  refine Eq.trans ?_ (values_apply _ _ _ _ _ ⟨256 * n.val + l.val, by omega⟩).symm
  refine congrArg₂ (fun i j => entry _ _ _ _ _ i * entry _ _ _ _ _ j) (Fin.ext ?_) (Fin.ext ?_) <;> dsimp only <;> omega

theorem gates_final (c : Dev nD) : (dats m 0 c).arrAt 3 cfg0.N = gates m c := by
  refine (dats m 0 c).arrAt_eq_of_covers 3 (gates m c) (by decide +kernel) fun t hf y => ?_
  blk_simp
  rw [after0_3, gates_eq]
  refine View.canon_apply_of_pieces (Val := Elt Ideal) (S := S1x512x1024) (e := .bf16) (fun y => gates m c (((cfg0.win 3).blk t).view.emb y)) _ (fun q hq x => ?_) y
    (cover0_3 _ _ _ _ y)
  simp only [List.mem_cons, List.not_mem_nil, or_false] at hq
  rcases hq with rfl | rfl | rfl | rfl <;>
  · idx_vars x
    obtain rfl : x0 = 0 := Subsingleton.elim _ _
    refine (gateRound_apply m c t _ x1 x2).trans ?_
    blk_ext [index_gates]

theorem gated_final (c : Dev nD) : (dats m 0 c).arrAt 4 cfg0.N = gated m c := by
  refine (dats m 0 c).arrAt_eq_of_covers 4 (gated m c) (by decide +kernel) fun t hf y => ?_
  blk_simp
  rw [after0_4, values_eq]
  refine View.canon_apply_of_pieces (Val := Elt Ideal) (S := S1x512x1024) (e := .bf16) (fun y => gated m c (((cfg0.win 4).blk t).view.emb y)) _ (fun q hq x => ?_) y
    (cover0_4 _ _ _ _ y)
  simp only [List.mem_cons, List.not_mem_nil, or_false] at hq
  rcases hq with rfl | rfl | rfl | rfl <;>
  · idx_vars x
    obtain rfl : x0 = 0 := Subsingleton.elim _ _
    refine (valueRound_apply m c t _ x1 x2).trans ?_
    blk_ext [index_values]

end Cert.ConvIn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Result
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite_queries_and_keys
public import proofs.«01_k».proof.Proof.ExpertFinal
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_some_block_used
public import Idealize.ShloMosaic.Adequacy
public import Idealize.ShloMosaic.Init
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Kernel3Ideal.Points
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.ConvIn

@[expose] public section

noncomputable section

namespace Cert.Proof

open Idealize.ShloMosaic Idealize.SL.Sem Cert.Kernel

open Cert.KernelIdeal.Attn (a0 a1 a3 real_of_pre final result)

/-- The reference runs no kernel, so that it has no semaphore at all. -/
theorem frame_reference : Cert.quiescent_ReferenceIdeal := fun m g _ =>
  (θ_run _ _ _).mono (fun r h => ⟨fun c => (h c).2, sem_eq_zero_of_no_sems (by decide) r.2⟩) (Cert.ReferenceIdeal.Value.run m g)

/-- Both results are the reference's array of the kernel's arguments. -/
theorem equal : Cert.algebraic_KernelIdeal_ReferenceIdeal_pre_finite_queries_and_keys := fun m g m' g' hpre hag =>
  ⟨result m,
    (θ_run _ _ _).mono (fun _ h c => by
      obtain ⟨h0, h1, h3⟩ := real_of_pre _ _ _ _ _ (hpre c)
      exact ⟨(h c).1.trans (final m c h0 h1 h3), (h c).2⟩) (Cert.KernelIdeal.Value.run_blocks m g),
    (θ_run _ _ _).mono (fun _ h c => ⟨(h c).1.trans (by
      obtain ⟨e0, e1, e2, e3, e4⟩ := hag c
      rw [Cert.ReferenceIdeal.Read.val_main_v23_eq, e0, e1, e2, e3, e4]), (h c).2⟩) (Cert.ReferenceIdeal.Value.run m' g')⟩

/-! ## The experts -/

/-- The precondition says that the last end of the experts' rows is 768 or more. -/
theorem some_used {F : FTy → Type} [FloatOps F] (x0 : FVec F Cert.Pre_some_block_used.S164352x1024 .f32) (x1 : IVec Cert.Pre_some_block_used.S32 32)
    (x2 : FVec F Cert.Pre_some_block_used.S4x32x1024x2048 .f32) (x3 : FVec F Cert.Pre_some_block_used.S4x32x2048 .f32)
    (x4 : FVec F Cert.Pre_some_block_used.S4x32x1024x1024 .f32) (x5 : FVec F Cert.Pre_some_block_used.S4x32x1024 .f32)
    (h : Cert.Pre_some_block_used.fn (F := F) x0 x1 x2 x3 x4 x5 = fun _ => 1#1) : 768 ≤ (x1 (ix1 (31 : Fin 32))).toInt := by
  have e : Cert.Pre_some_block_used.fn (F := F) x0 x1 x2 x3 x4 x5 (ix1 (0 : Fin 1)) = BitVec.ofBool ((768#32 : BitVec 32).sle (x1 (ix1 (31 : Fin 32)))) :=
    congrArg (fun X : BitVec 32 => BitVec.ofBool ((768#32 : BitVec 32).sle X)) (congrArg x1 (funext fun a => match a with | ⟨0, _⟩ => rfl))
  rw [h] at e
  generalize x1 (ix1 (31 : Fin 32)) = X at e ⊢
  rcases hb : (768#32 : BitVec 32).sle X with _ | _
  · rw [hb] at e
    exact absurd e (by decide)
  · exact of_decide_eq_true hb

open Cert.Experts (run_all fits kept expert_final expertResult)

/-- The experts' program over any floats leaves its arguments and counters alone, where a block is used. -/
def FrameAt (F : FTy → Type) [FloatOps F] : Prop :=
  ∀ (m : (ℓ : Loc Cert.Kernel2Ideal.nD Cert.Kernel2Ideal.τ Cert.Kernel2Ideal.sig) → Buf (Elt F) ℓ) (ρ : Dev Cert.Kernel2Ideal.nD → PrngReg),
    (∀ c : Dev Cert.Kernel2Ideal.nD, Cert.Pre_some_block_used.fn (F := F) (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5)) = fun _ => 1#1) →
    θ_run (Cert.Kernel2Ideal.defs (F := F)) (onTc (τ := Cert.Kernel2Ideal.τ) (Cert.Kernel2Ideal.main (F := F))) ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

theorem frame_any (F : FTy → Type) [FloatOps F] : FrameAt F := fun m ρ hp =>
  (θ_run Cert.Kernel2Ideal.defs _ _).mono (fun _ h => ⟨fun c => (h.1 c).2, h.2⟩)
    (run_all m ρ (fits m (some_used _ _ _ _ _ _ (hp 0))) (kept m _))

theorem frame_experts_ideal : Cert.quiescent_Kernel2Ideal := fun m ρ hp => frame_any Ideal m ρ hp

/-- The printed program has the same text as the idealized one, so that its frame is the same statement over bit patterns. -/
theorem same_text : Cert.quiescent_Kernel2 = FrameAt Bits := by
  chain_rfl

theorem frame_experts : Cert.quiescent_Kernel2 := same_text.mpr (frame_any Bits)

/-- The plain experts run no kernel either. -/
theorem frame_plain : Cert.quiescent_Reference2Ideal := fun m g _ =>
  (θ_run _ _ _).mono (fun r h => ⟨fun c => (h c).2, sem_eq_zero_of_no_sems (by decide) r.2⟩) (Cert.Reference2Ideal.Value.run m g)

/-- Both results are the plain experts of the kernel's arguments. -/
theorem equal_experts : Cert.algebraic_Kernel2Ideal_Reference2Ideal := fun m g m' g' hpre hag => by
  have hx : Cert.Experts.SomeUsed m := some_used _ _ _ _ _ _ (hpre 0)
  refine ⟨expertResult m, (θ_run _ _ _).mono (fun _ h c => ?_) (run_all m g (fits m hx) (kept m _)),
    (θ_run _ _ _).mono (fun _ h c => ⟨(h c).1.trans ?_, (h c).2⟩) (Cert.Reference2Ideal.Value.run m' g')⟩
  · exact ⟨(h.1 c).1.trans (expert_final m c _ hx), (h.1 c).2⟩
  · obtain ⟨e0, e1, e2, e3, e4, e5⟩ := hag c
    rw [Cert.Reference2Ideal.Read.val_main_v82_eq, e0, e1, e2, e3, e4, e5]
    obtain rfl : c = 0 := Subsingleton.elim _ _
    rfl

/-! ## The convolution's input projection -/

/-- The plain projection runs no kernel. -/
theorem frame_projection : Cert.quiescent_Reference3Ideal := fun m g _ =>
  (θ_run _ _ _).mono (fun r h => ⟨fun c => (h c).2.2, sem_eq_zero_of_no_sems (by decide) r.2⟩) (Cert.Reference3Ideal.Value.run m g)

open Cert.ConvIn (gates gated gates_final gated_final)

/-- Both programs leave the output gate and the gated values of the kernel's arguments. -/
theorem equal_projection : Cert.algebraic_Kernel3Ideal_Reference3Ideal := fun m g m' g' _ hag =>
  ⟨gates m, gated m,
    (θ_run _ _ _).mono (fun _ h c => ⟨(h c).1.trans (gates_final m c), (h c).2.1.trans (gated_final m c), (h c).2.2⟩)
      (Cert.Kernel3Ideal.Value.run_blocks m g),
    (θ_run _ _ _).mono (fun _ h c => by
      obtain ⟨e0, e1, e2⟩ := hag c
      refine ⟨(h c).1.trans ?_, (h c).2.1.trans ?_, (h c).2.2⟩
      · rw [Cert.Reference3Ideal.Read.val_main_v17_eq, e0, e1, e2]
      · rw [Cert.Reference3Ideal.Read.val_main_v19_eq, e0, e1, e2]) (Cert.Reference3Ideal.Value.run m' g')⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Pre_finite_queries_and_keys.Gen.facts, Cert.Pre_some_block_used.Gen.facts,
  fun m g _ => Cert.Kernel.Gen.frame m g, fun m g _ => Cert.KernelIdeal.Gen.frame m g, fun m g _ => Cert.KernelIdeal.Gen.frame m g,
  frame_reference, fun m g _ => frame_reference m g trivial,
  frame_experts, frame_experts_ideal, frame_plain, fun m g _ => frame_plain m g trivial,
  fun m g _ => Cert.Kernel3.Gen.frame m g, fun m g _ => Cert.Kernel3Ideal.Gen.frame m g, frame_projection,
  trivial, equal, trivial, equal_experts, trivial, equal_projection⟩

end Cert.Proof

end
